-- ==== Defs.lean ====
def Pre_Kernel [hPre_roll1_Kernel : Cert.Pre_roll1_Kernel.Facts] (m : (ℓ : Loc Cert.Kernel.nD Cert.Kernel.τ Cert.Kernel.sig) → Buf (Elt Bits) ℓ) : Prop :=
  ∀ c : Dev Cert.Kernel.nD,
    (Cert.Pre_roll1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll2_Kernel [hPre_roll2_Kernel : Cert.Pre_roll2_Kernel.Facts] (m : (ℓ : Loc Cert.Kernel.nD Cert.Kernel.τ Cert.Kernel.sig) → Buf (Elt Bits) ℓ) : Prop :=
  ∀ c : Dev Cert.Kernel.nD,
    (Cert.Pre_roll2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_roll3_Kernel [hPre_roll3_Kernel : Cert.Pre_roll3_Kernel.Facts] (m : (ℓ : Loc Cert.Kernel.nD Cert.Kernel.τ Cert.Kernel.sig) → Buf (Elt Bits) ℓ) : Prop :=
  ∀ c : Dev Cert.Kernel.nD,
    (Cert.Pre_roll3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_roll1_Kernel : Cert.Pre_roll1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll2_Kernel [hPre_roll2_Kernel : Cert.Pre_roll2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_roll3_Kernel [hPre_roll3_Kernel : Cert.Pre_roll3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_roll3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_roll1_ReferenceIdeal [hPre_roll1_ReferenceIdeal : Cert.Pre_roll1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll2_ReferenceIdeal [hPre_roll2_ReferenceIdeal : Cert.Pre_roll2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_roll3_ReferenceIdeal [hPre_roll3_ReferenceIdeal : Cert.Pre_roll3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_roll3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_roll1_Kernel : Cert.Pre_roll1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll2_Kernel [hKernel : Cert.Kernel.Facts] [hPre_roll2_Kernel : Cert.Pre_roll2_Kernel.Facts] : Prop :=
  ∀ (m : (ℓ : Loc Cert.Kernel.nD Cert.Kernel.τ Cert.Kernel.sig) → Buf (Elt Bits) ℓ) (g : Dev Cert.Kernel.nD → PrngReg), Pre_Kernel_roll2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_roll3_Kernel [hKernel : Cert.Kernel.Facts] [hPre_roll3_Kernel : Cert.Pre_roll3_Kernel.Facts] : Prop :=
  ∀ (m : (ℓ : Loc Cert.Kernel.nD Cert.Kernel.τ Cert.Kernel.sig) → Buf (Elt Bits) ℓ) (g : Dev Cert.Kernel.nD → PrngReg), Pre_Kernel_roll3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_roll1_Kernel : Cert.Pre_roll1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll2_Kernel [hKernelIdeal : Cert.KernelIdeal.Facts] [hPre_roll2_Kernel : Cert.Pre_roll2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_roll3_Kernel [hKernelIdeal : Cert.KernelIdeal.Facts] [hPre_roll3_Kernel : Cert.Pre_roll3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_roll3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll1_ReferenceIdeal [hReferenceIdeal : Cert.ReferenceIdeal.Facts] [hPre_roll1_ReferenceIdeal : Cert.Pre_roll1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll2_ReferenceIdeal [hReferenceIdeal : Cert.ReferenceIdeal.Facts] [hPre_roll2_ReferenceIdeal : Cert.Pre_roll2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_roll3_ReferenceIdeal [hReferenceIdeal : Cert.ReferenceIdeal.Facts] [hPre_roll3_ReferenceIdeal : Cert.Pre_roll3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_roll3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_roll1_Kernel : Cert.Pre_roll1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨3, ![1, 4096, 2048]⟩ ⟨3, ![4, 4096, 2048]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll2_Kernel [hKernelIdeal : Cert.KernelIdeal.Facts] [hReferenceIdeal : Cert.ReferenceIdeal.Facts] [hPre_roll2_Kernel : Cert.Pre_roll2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll2_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨3, ![1, 4096, 2048]⟩ ⟨3, ![4, 4096, 2048]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_roll3_Kernel [hKernelIdeal : Cert.KernelIdeal.Facts] [hReferenceIdeal : Cert.ReferenceIdeal.Facts] [hPre_roll3_Kernel : Cert.Pre_roll3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_roll3_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨3, ![1, 4096, 2048]⟩ ⟨3, ![4, 4096, 2048]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_roll1_Kernel : Cert.Pre_roll1_Kernel.Facts) (hPre_roll2_Kernel : Cert.Pre_roll2_Kernel.Facts) (hPre_roll3_Kernel : Cert.Pre_roll3_Kernel.Facts) (hPre_roll1_ReferenceIdeal : Cert.Pre_roll1_ReferenceIdeal.Facts) (hPre_roll2_ReferenceIdeal : Cert.Pre_roll2_ReferenceIdeal.Facts) (hPre_roll3_ReferenceIdeal : Cert.Pre_roll3_ReferenceIdeal.Facts),
    quiescent_Kernel (hKernel := hKernel) (hPre_roll1_Kernel := hPre_roll1_Kernel)
    ∧ quiescent_Kernel_pre_roll2_Kernel (hKernel := hKernel) (hPre_roll2_Kernel := hPre_roll2_Kernel)
    ∧ quiescent_Kernel_pre_roll3_Kernel (hKernel := hKernel) (hPre_roll3_Kernel := hPre_roll3_Kernel)
    ∧ quiescent_KernelIdeal (hKernelIdeal := hKernelIdeal) (hPre_roll1_Kernel := hPre_roll1_Kernel)
    ∧ quiescent_KernelIdeal_pre_roll2_Kernel (hKernelIdeal := hKernelIdeal) (hPre_roll2_Kernel := hPre_roll2_Kernel)
    ∧ quiescent_KernelIdeal_pre_roll3_Kernel (hKernelIdeal := hKernelIdeal) (hPre_roll3_Kernel := hPre_roll3_Kernel)
    ∧ quiescent_ReferenceIdeal (hReferenceIdeal := hReferenceIdeal)
    ∧ quiescent_ReferenceIdeal_pre_roll1_ReferenceIdeal (hReferenceIdeal := hReferenceIdeal) (hPre_roll1_ReferenceIdeal := hPre_roll1_ReferenceIdeal)
    ∧ quiescent_ReferenceIdeal_pre_roll2_ReferenceIdeal (hReferenceIdeal := hReferenceIdeal) (hPre_roll2_ReferenceIdeal := hPre_roll2_ReferenceIdeal)
    ∧ quiescent_ReferenceIdeal_pre_roll3_ReferenceIdeal (hReferenceIdeal := hReferenceIdeal) (hPre_roll3_ReferenceIdeal := hPre_roll3_ReferenceIdeal)
    ∧ preserves_Kernel_KernelIdeal
    ∧ algebraic_KernelIdeal_ReferenceIdeal (hKernelIdeal := hKernelIdeal) (hReferenceIdeal := hReferenceIdeal) (hPre_roll1_Kernel := hPre_roll1_Kernel)
    ∧ algebraic_KernelIdeal_ReferenceIdeal_pre_roll2_Kernel (hKernelIdeal := hKernelIdeal) (hReferenceIdeal := hReferenceIdeal) (hPre_roll2_Kernel := hPre_roll2_Kernel)
    ∧ algebraic_KernelIdeal_ReferenceIdeal_pre_roll3_Kernel (hKernelIdeal := hKernelIdeal) (hReferenceIdeal := hReferenceIdeal) (hPre_roll3_Kernel := hPre_roll3_Kernel)
-- ==== Pre_roll1_Kernel.lean ====
abbrev S1x4096x2048 : Shape := ⟨3, ![1, 4096, 2048]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x4096x2048 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_roll1_ReferenceIdeal.lean ====
abbrev S4x4096x2048 : Shape := ⟨3, ![4, 4096, 2048]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x4096x2048 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 3#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 1#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 2#32
  let main_v13 : IVec S_ 1 := cmpi .eq main_v12 main_c_2
  let main_v14 : IVec S_ 1 := andi main_v10 main_v13
  main_v14
-- ==== Pre_roll2_Kernel.lean ====
abbrev S1x4096x2048 : Shape := ⟨3, ![1, 4096, 2048]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x4096x2048 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_roll2_ReferenceIdeal.lean ====
abbrev S4x4096x2048 : Shape := ⟨3, ![4, 4096, 2048]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x4096x2048 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 2#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 3#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 0#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 1#32
  let main_v13 : IVec S_ 1 := cmpi .eq main_v12 main_c_2
  let main_v14 : IVec S_ 1 := andi main_v10 main_v13
  main_v14
-- ==== Pre_roll3_Kernel.lean ====
abbrev S1x4096x2048 : Shape := ⟨3, ![1, 4096, 2048]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S1x4096x2048 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Pre_roll3_ReferenceIdeal.lean ====
abbrev S4x4096x2048 : Shape := ⟨3, ![4, 4096, 2048]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn {F : FTy → Type} [FloatOps F] (main_arg0 : FVec F S4x4096x2048 .f32) (main_arg1 : IVec S4 32) : IVec S_ 1 :=
  let main_v0 : IVec S1 32 := (extractStridedSlice S1 ![0] · slices_S4_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S4_S1_1) main_arg1
  let main_v4 : IVec S_ 32 := shapeCast S_ main_v3 shapeCasts_S1_S_
  let main_c_0 : IVec S_ 32 := constantI S_ 32 2#32
  let main_v5 : IVec S_ 1 := cmpi .eq main_v4 main_c_0
  let main_v6 : IVec S_ 1 := andi main_v2 main_v5
  let main_v7 : IVec S1 32 := (extractStridedSlice S1 ![2] · slices_S4_S1_2) main_arg1
  let main_v8 : IVec S_ 32 := shapeCast S_ main_v7 shapeCasts_S1_S_
  let main_c_1 : IVec S_ 32 := constantI S_ 32 3#32
  let main_v9 : IVec S_ 1 := cmpi .eq main_v8 main_c_1
  let main_v10 : IVec S_ 1 := andi main_v6 main_v9
  let main_v11 : IVec S1 32 := (extractStridedSlice S1 ![3] · slices_S4_S1_3) main_arg1
  let main_v12 : IVec S_ 32 := shapeCast S_ main_v11 shapeCasts_S1_S_
  let main_c_2 : IVec S_ 32 := constantI S_ 32 0#32
  let main_v13 : IVec S_ 1 := cmpi .eq main_v12 main_c_2
  let main_v14 : IVec S_ 1 := andi main_v10 main_v13
  main_v14
-- ==== Kernel.lean ====
abbrev S1x4096x2048 : Shape := ⟨3, ![1, 4096, 2048]⟩
abbrev S4 : Shape := ⟨1, ![4]⟩
abbrev S8x512x2048 : Shape := ⟨3, ![8, 512, 2048]⟩
abbrev S8x1x512 : Shape := ⟨3, ![8, 1, 512]⟩
abbrev S2x512x2048 : Shape := ⟨3, ![2, 512, 2048]⟩
abbrev S2x1x512 : Shape := ⟨3, ![2, 1, 512]⟩
abbrev S2 : Shape := ⟨1, ![2]⟩
abbrev S8 : Shape := ⟨1, ![8]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩
abbrev S1x512 : Shape := ⟨2, ![1, 512]⟩
abbrev S1x1x512 : Shape := ⟨3, ![1, 1, 512]⟩

abbrev nBuf : Space → Nat
  | .hbm => 5
  | .vmem => 6
  | .smem => 1
  | _ => 0

abbrev bufTy : (tb : Table) → Fin (tcTables nBuf tb) → BufTy
  | .hbm, ⟨0, _⟩ => ⟨S1x4096x2048, .f32⟩
  | .hbm, ⟨1, _⟩ => ⟨S4, .i32⟩
  | .hbm, ⟨2, _⟩ => ⟨S1x4096x2048, .bf16⟩
  | .hbm, ⟨3, _⟩ => ⟨S8x512x2048, .i8⟩
  | .hbm, ⟨4, _⟩ => ⟨S8x1x512, .f32⟩
  | .local _ .vmem, ⟨0, _⟩ => ⟨S2x512x2048, .f32⟩
  | .local _ .vmem, ⟨1, _⟩ => ⟨S2x512x2048, .i8⟩
  | .local _ .vmem, ⟨2, _⟩ => ⟨S2x1x512, .f32⟩
  | .local _ .vmem, ⟨3, _⟩ => ⟨S2x512x2048, .i8⟩
  | .local _ .vmem, ⟨4, _⟩ => ⟨S2x1x512, .f32⟩
  | .local _ .vmem, ⟨5, _⟩ => ⟨S2x512x2048, .bf16⟩
  | .local _ .smem, ⟨0, _⟩ => ⟨S4, .i32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 2 → Bool
  | ⟨0, _⟩ => true
  | ⟨1, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 2 29 bufScoped semScoped dmaSemScoped tileCredit tileCredit_eq_zero tileCredit_pos).withBarriers [(7, 1)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_sem0_0 : DmaSem sig := 0
abbrev barrier7 : Sem sig := 1

abbrev nD : Nat := 32
abbrev τ : Topo := Topo.v7x

variable {F : FTy → Type} [FloatOps F]

abbrev grid0 : Pipeline.Grid := .none

def k0_dev1 (d0 : Dev nD) (v9 : BitVec 32) (v14 : BitVec 32) (v19 : BitVec 32) (v24 : BitVec 32) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v30 : BitVec 32 := Scalar.muli v2 c16_i32_11
  let v31 : BitVec 32 := Scalar.addi c0_i32_12 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v32 : BitVec 32 := Scalar.muli v5 c4_i32_13
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v27 : BitVec 1 := Scalar.cmpi .eq v24 v8
  let c3_i32_9 : BitVec 32 := 3#32
  let v22 : BitVec 1 := Scalar.cmpi .eq v19 v8
  let c2_i32_8 : BitVec 32 := 2#32
  let v17 : BitVec 1 := Scalar.cmpi .eq v14 v8
  let c1_i32_6 : BitVec 32 := 1#32
  let v12 : BitVec 1 := Scalar.cmpi .eq v9 v8
  let c0_i32_3 : BitVec 32 := 0#32
  let c0_i32_4 : BitVec 32 := 0#32
  let v13 : BitVec 32 := Scalar.select v12 c0_i32_3 c0_i32_4
  let v18 : BitVec 32 := Scalar.select v17 c1_i32_6 v13
  let v23 : BitVec 32 := Scalar.select v22 c2_i32_8 v18
  let v28 : BitVec 32 := Scalar.select v27 c3_i32_9 v23
  let c1_i32_14 : BitVec 32 := 1#32
  let v34 : BitVec 32 := Scalar.muli v28 c1_i32_14
  let v35 : BitVec 32 := Scalar.addi v33 v34
  v35.toNat

def k0_dev2 (d0 : Dev nD) (v9 : BitVec 32) (v14 : BitVec 32) (v19 : BitVec 32) (v24 : BitVec 32) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_53 : BitVec 32 := 16#32
  let v78 : BitVec 32 := Scalar.muli v2 c16_i32_53
  let v79 : BitVec 32 := Scalar.addi c0_i32_54 v78
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v80 : BitVec 32 := Scalar.muli v5 c4_i32_55
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_56 : BitVec 32 := 1#32
  let v82 : BitVec 32 := Scalar.muli v26 c1_i32_56
  let v83 : BitVec 32 := Scalar.addi v81 v82
  v83.toNat
def k0_dev3 (d0 : Dev nD) (v9 : BitVec 32) (v14 : BitVec 32) (v19 : BitVec 32) (v24 : BitVec 32) : Nat :=
  let c0_i32_66 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_65 : BitVec 32 := 16#32
  let v92 : BitVec 32 := Scalar.muli v2 c16_i32_65
  let v93 : BitVec 32 := Scalar.addi c0_i32_66 v92
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_67 : BitVec 32 := 4#32
  let v94 : BitVec 32 := Scalar.muli v5 c4_i32_67
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_68 : BitVec 32 := 1#32
  let v96 : BitVec 32 := Scalar.muli v26 c1_i32_68
  let v97 : BitVec 32 := Scalar.addi v95 v96
  v97.toNat
def k0_dev4 (d0 : Dev nD) (v9 : BitVec 32) (v14 : BitVec 32) (v19 : BitVec 32) (v24 : BitVec 32) : Nat :=
  let c0_i32_105 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_104 : BitVec 32 := 16#32
  let v142 : BitVec 32 := Scalar.muli v2 c16_i32_104
  let v143 : BitVec 32 := Scalar.addi c0_i32_105 v142
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_106 : BitVec 32 := 4#32
  let v144 : BitVec 32 := Scalar.muli v5 c4_i32_106
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_107 : BitVec 32 := 1#32
  let v146 : BitVec 32 := Scalar.muli v26 c1_i32_107
  let v147 : BitVec 32 := Scalar.addi v145 v146
  v147.toNat
def k0_dev5 (d0 : Dev nD) (v9 : BitVec 32) (v14 : BitVec 32) (v19 : BitVec 32) (v24 : BitVec 32) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v156 : BitVec 32 := Scalar.muli v2 c16_i32_116
  let v157 : BitVec 32 := Scalar.addi c0_i32_117 v156
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_118 : BitVec 32 := 4#32
  let v158 : BitVec 32 := Scalar.muli v5 c4_i32_118
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_119 : BitVec 32 := 1#32
  let v160 : BitVec 32 := Scalar.muli v26 c1_i32_119
  let v161 : BitVec 32 := Scalar.addi v159 v160
  v161.toNat
def k0_dev6 (d0 : Dev nD) (v9 : BitVec 32) (v14 : BitVec 32) (v19 : BitVec 32) (v24 : BitVec 32) : Nat :=
  let c0_i32_174 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_173 : BitVec 32 := 16#32
  let v218 : BitVec 32 := Scalar.muli v2 c16_i32_173
  let v219 : BitVec 32 := Scalar.addi c0_i32_174 v218
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_175 : BitVec 32 := 4#32
  let v220 : BitVec 32 := Scalar.muli v5 c4_i32_175
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_176 : BitVec 32 := 1#32
  let v222 : BitVec 32 := Scalar.muli v26 c1_i32_176
  let v223 : BitVec 32 := Scalar.addi v221 v222
  v223.toNat
def k0_dev7 (d0 : Dev nD) (v9 : BitVec 32) (v14 : BitVec 32) (v19 : BitVec 32) (v24 : BitVec 32) : Nat :=
  let c0_i32_186 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_185 : BitVec 32 := 16#32
  let v232 : BitVec 32 := Scalar.muli v2 c16_i32_185
  let v233 : BitVec 32 := Scalar.addi c0_i32_186 v232
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_187 : BitVec 32 := 4#32
  let v234 : BitVec 32 := Scalar.muli v5 c4_i32_187
  let v235 : BitVec 32 := Scalar.addi v233 v234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_188 : BitVec 32 := 1#32
  let v236 : BitVec 32 := Scalar.muli v26 c1_i32_188
  let v237 : BitVec 32 := Scalar.addi v235 v236
  v237.toNat
def k0_dev8 (d0 : Dev nD) (v9 : BitVec 32) (v14 : BitVec 32) (v19 : BitVec 32) (v24 : BitVec 32) : Nat :=
  let c0_i32_312 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_311 : BitVec 32 := 16#32
  let v362 : BitVec 32 := Scalar.muli v2 c16_i32_311
  let v363 : BitVec 32 := Scalar.addi c0_i32_312 v362
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_313 : BitVec 32 := 4#32
  let v364 : BitVec 32 := Scalar.muli v5 c4_i32_313
  let v365 : BitVec 32 := Scalar.addi v363 v364
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_314 : BitVec 32 := 1#32
  let v366 : BitVec 32 := Scalar.muli v26 c1_i32_314
  let v367 : BitVec 32 := Scalar.addi v365 v366
  v367.toNat
def k0_dev9 (d0 : Dev nD) (v9 : BitVec 32) (v14 : BitVec 32) (v19 : BitVec 32) (v24 : BitVec 32) : Nat :=
  let c0_i32_324 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_323 : BitVec 32 := 16#32
  let v376 : BitVec 32 := Scalar.muli v2 c16_i32_323
  let v377 : BitVec 32 := Scalar.addi c0_i32_324 v376
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_325 : BitVec 32 := 4#32
  let v378 : BitVec 32 := Scalar.muli v5 c4_i32_325
  let v379 : BitVec 32 := Scalar.addi v377 v378
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_326 : BitVec 32 := 1#32
  let v380 : BitVec 32 := Scalar.muli v26 c1_i32_326
  let v381 : BitVec 32 := Scalar.addi v379 v380
  v381.toNat
def k0_dev10 (d0 : Dev nD) (v9 : BitVec 32) (v14 : BitVec 32) (v19 : BitVec 32) (v24 : BitVec 32) : Nat :=
  let c0_i32_450 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_449 : BitVec 32 := 16#32
  let v506 : BitVec 32 := Scalar.muli v2 c16_i32_449
  let v507 : BitVec 32 := Scalar.addi c0_i32_450 v506
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_451 : BitVec 32 := 4#32
  let v508 : BitVec 32 := Scalar.muli v5 c4_i32_451
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_452 : BitVec 32 := 1#32
  let v510 : BitVec 32 := Scalar.muli v26 c1_i32_452
  let v511 : BitVec 32 := Scalar.addi v509 v510
  v511.toNat
def k0_dev11 (d0 : Dev nD) (v9 : BitVec 32) (v14 : BitVec 32) (v19 : BitVec 32) (v24 : BitVec 32) : Nat :=
  let c0_i32_462 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_461 : BitVec 32 := 16#32
  let v520 : BitVec 32 := Scalar.muli v2 c16_i32_461
  let v521 : BitVec 32 := Scalar.addi c0_i32_462 v520
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_463 : BitVec 32 := 4#32
  let v522 : BitVec 32 := Scalar.muli v5 c4_i32_463
  let v523 : BitVec 32 := Scalar.addi v521 v522
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_464 : BitVec 32 := 1#32
  let v524 : BitVec 32 := Scalar.muli v26 c1_i32_464
  let v525 : BitVec 32 := Scalar.addi v523 v524
  v525.toNat
def k0_dev12 (d0 : Dev nD) (v9 : BitVec 32) (v14 : BitVec 32) (v19 : BitVec 32) (v24 : BitVec 32) : Nat :=
  let c0_i32_594 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_593 : BitVec 32 := 16#32
  let v656 : BitVec 32 := Scalar.muli v2 c16_i32_593
  let v657 : BitVec 32 := Scalar.addi c0_i32_594 v656
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_595 : BitVec 32 := 4#32
  let v658 : BitVec 32 := Scalar.muli v5 c4_i32_595
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_596 : BitVec 32 := 1#32
  let v660 : BitVec 32 := Scalar.muli v26 c1_i32_596
  let v661 : BitVec 32 := Scalar.addi v659 v660
  v661.toNat
def k0_dev13 (d0 : Dev nD) (v9 : BitVec 32) (v14 : BitVec 32) (v19 : BitVec 32) (v24 : BitVec 32) : Nat :=
  let c0_i32_606 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_605 : BitVec 32 := 16#32
  let v670 : BitVec 32 := Scalar.muli v2 c16_i32_605
  let v671 : BitVec 32 := Scalar.addi c0_i32_606 v670
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_607 : BitVec 32 := 4#32
  let v672 : BitVec 32 := Scalar.muli v5 c4_i32_607
  let v673 : BitVec 32 := Scalar.addi v671 v672
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_608 : BitVec 32 := 1#32
  let v674 : BitVec 32 := Scalar.muli v26 c1_i32_608
  let v675 : BitVec 32 := Scalar.addi v673 v674
  v675.toNat
def k0_dev14 (d0 : Dev nD) (v9 : BitVec 32) (v14 : BitVec 32) (v19 : BitVec 32) (v24 : BitVec 32) : Nat :=
  let c0_i32_738 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_737 : BitVec 32 := 16#32
  let v806 : BitVec 32 := Scalar.muli v2 c16_i32_737
  let v807 : BitVec 32 := Scalar.addi c0_i32_738 v806
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_739 : BitVec 32 := 4#32
  let v808 : BitVec 32 := Scalar.muli v5 c4_i32_739
  let v809 : BitVec 32 := Scalar.addi v807 v808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_740 : BitVec 32 := 1#32
  let v810 : BitVec 32 := Scalar.muli v26 c1_i32_740
  let v811 : BitVec 32 := Scalar.addi v809 v810
  v811.toNat
def k0_dev15 (d0 : Dev nD) (v9 : BitVec 32) (v14 : BitVec 32) (v19 : BitVec 32) (v24 : BitVec 32) : Nat :=
  let c0_i32_750 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_749 : BitVec 32 := 16#32
  let v820 : BitVec 32 := Scalar.muli v2 c16_i32_749
  let v821 : BitVec 32 := Scalar.addi c0_i32_750 v820
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_751 : BitVec 32 := 4#32
  let v822 : BitVec 32 := Scalar.muli v5 c4_i32_751
  let v823 : BitVec 32 := Scalar.addi v821 v822
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_752 : BitVec 32 := 1#32
  let v824 : BitVec 32 := Scalar.muli v26 c1_i32_752
  let v825 : BitVec 32 := Scalar.addi v823 v824
  v825.toNat
def k0_dev16 (d0 : Dev nD) (v9 : BitVec 32) (v14 : BitVec 32) (v19 : BitVec 32) (v24 : BitVec 32) : Nat :=
  let c0_i32_876 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_875 : BitVec 32 := 16#32
  let v950 : BitVec 32 := Scalar.muli v2 c16_i32_875
  let v951 : BitVec 32 := Scalar.addi c0_i32_876 v950
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_877 : BitVec 32 := 4#32
  let v952 : BitVec 32 := Scalar.muli v5 c4_i32_877
  let v953 : BitVec 32 := Scalar.addi v951 v952
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_878 : BitVec 32 := 1#32
  let v954 : BitVec 32 := Scalar.muli v26 c1_i32_878
  let v955 : BitVec 32 := Scalar.addi v953 v954
  v955.toNat
def k0_dev17 (d0 : Dev nD) (v9 : BitVec 32) (v14 : BitVec 32) (v19 : BitVec 32) (v24 : BitVec 32) : Nat :=
  let c0_i32_888 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_887 : BitVec 32 := 16#32
  let v964 : BitVec 32 := Scalar.muli v2 c16_i32_887
  let v965 : BitVec 32 := Scalar.addi c0_i32_888 v964
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_889 : BitVec 32 := 4#32
  let v966 : BitVec 32 := Scalar.muli v5 c4_i32_889
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v25 : BitVec 1 := Scalar.cmpi .eq v8 c3_i32
  let c2_i32_7 : BitVec 32 := 2#32
  let v20 : BitVec 1 := Scalar.cmpi .eq v8 c2_i32_7
  let c1_i32_5 : BitVec 32 := 1#32
  let v15 : BitVec 1 := Scalar.cmpi .eq v8 c1_i32_5
  let c0_i32 : BitVec 32 := 0#32
  let v10 : BitVec 1 := Scalar.cmpi .eq v8 c0_i32
  let c0_i32_2 : BitVec 32 := 0#32
  let v11 : BitVec 32 := Scalar.select v10 v9 c0_i32_2
  let v16 : BitVec 32 := Scalar.select v15 v14 v11
  let v21 : BitVec 32 := Scalar.select v20 v19 v16
  let v26 : BitVec 32 := Scalar.select v25 v24 v21
  let c1_i32_890 : BitVec 32 := 1#32
  let v968 : BitVec 32 := Scalar.muli v26 c1_i32_890
  let v969 : BitVec 32 := Scalar.addi v967 v968
  v969.toNat
def k0_dev18 (d0 : Dev nD) (v9 : BitVec 32) (v14 : BitVec 32) (v19 : BitVec 32) (v24 : BitVec 32) : Nat :=
  let c0_i32_1175 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1174 : BitVec 32 := 16#32
  let v1236 : BitVec 32 := Scalar.muli v2 c16_i32_1174
  let v1237 : BitVec 32 := Scalar.addi c0_i32_1175 v1236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1176 : BitVec 32 := 4#32
  let v1238 : BitVec 32 := Scalar.muli v5 c4_i32_1176
  let v1239 : BitVec 32 := Scalar.addi v1237 v1238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v27 : BitVec 1 := Scalar.cmpi .eq v24 v8
  let c3_i32_9 : BitVec 32 := 3#32
  let v22 : BitVec 1 := Scalar.cmpi .eq v19 v8
  let c2_i32_8 : BitVec 32 := 2#32
  let v17 : BitVec 1 := Scalar.cmpi .eq v14 v8
  let c1_i32_6 : BitVec 32 := 1#32
  let v12 : BitVec 1 := Scalar.cmpi .eq v9 v8
  let c0_i32_3 : BitVec 32 := 0#32
  let c0_i32_4 : BitVec 32 := 0#32
  let v13 : BitVec 32 := Scalar.select v12 c0_i32_3 c0_i32_4
  let v18 : BitVec 32 := Scalar.select v17 c1_i32_6 v13
  let v23 : BitVec 32 := Scalar.select v22 c2_i32_8 v18
  let v28 : BitVec 32 := Scalar.select v27 c3_i32_9 v23
  let c1_i32_1177 : BitVec 32 := 1#32
  let v1240 : BitVec 32 := Scalar.muli v28 c1_i32_1177
  let v1241 : BitVec 32 := Scalar.addi v1239 v1240
  v1241.toNat

def k0_chk1 (d0 : Dev nD) (v9 : BitVec 32) (v14 : BitVec 32) (v19 : BitVec 32) (v24 : BitVec 32) : Prop :=
  ((k0_dev1 d0 v9 v14 v19 v24) < nD) ∧
  ((k0_dev2 d0 v9 v14 v19 v24) < nD) ∧
  ((k0_dev3 d0 v9 v14 v19 v24) < nD) ∧
  ((k0_dev4 d0 v9 v14 v19 v24) < nD) ∧
  ((k0_dev5 d0 v9 v14 v19 v24) < nD) ∧
  ((k0_dev6 d0 v9 v14 v19 v24) < nD) ∧
  ((k0_dev7 d0 v9 v14 v19 v24) < nD) ∧
  ((k0_dev8 d0 v9 v14 v19 v24) < nD) ∧
  ((k0_dev9 d0 v9 v14 v19 v24) < nD) ∧
  ((k0_dev10 d0 v9 v14 v19 v24) < nD) ∧
  ((k0_dev11 d0 v9 v14 v19 v24) < nD) ∧
  ((k0_dev12 d0 v9 v14 v19 v24) < nD) ∧
  ((k0_dev13 d0 v9 v14 v19 v24) < nD) ∧
  ((k0_dev14 d0 v9 v14 v19 v24) < nD) ∧
  ((k0_dev15 d0 v9 v14 v19 v24) < nD) ∧
  ((k0_dev16 d0 v9 v14 v19 v24) < nD) ∧
  ((k0_dev17 d0 v9 v14 v19 v24) < nD) ∧
  ((k0_dev18 d0 v9 v14 v19 v24) < nD)
theorem k0_dev1_lt : ∀ (d0 : Dev nD) (v9 : BitVec 32) (v14 : BitVec 32) (v19 : BitVec 32) (v24 : BitVec 32) (k0_hw1 : k0_chk1 d0 v9 v14 v19 v24), (k0_dev1 d0 v9 v14 v19 v24) < nD := fun d0 v9 v14 v19 v24 k0_hw1 => k0_hw1.1
theorem k0_dev2_lt : ∀ (d0 : Dev nD) (v9 : BitVec 32) (v14 : BitVec 32) (v19 : BitVec 32) (v24 : BitVec 32) (k0_hw1 : k0_chk1 d0 v9 v14 v19 v24), (k0_dev2 d0 v9 v14 v19 v24) < nD := fun d0 v9 v14 v19 v24 k0_hw1 => k0_hw1.2.1
theorem k0_dev3_lt : ∀ (d0 : Dev nD) (v9 : BitVec 32) (v14 : BitVec 32) (v19 : BitVec 32) (v24 : BitVec 32) (k0_hw1 : k0_chk1 d0 v9 v14 v19 v24), (k0_dev3 d0 v9 v14 v19 v24) < nD := fun d0 v9 v14 v19 v24 k0_hw1 => k0_hw1.2.2.1
theorem k0_dev4_lt : ∀ (d0 : Dev nD) (v9 : BitVec 32) (v14 : BitVec 32) (v19 : BitVec 32) (v24 : BitVec 32) (k0_hw1 : k0_chk1 d0 v9 v14 v19 v24), (k0_dev4 d0 v9 v14 v19 v24) < nD := fun d0 v9 v14 v19 v24 k0_hw1 => k0_hw1.2.2.2.1
theorem k0_dev5_lt : ∀ (d0 : Dev nD) (v9 : BitVec 32) (v14 : BitVec 32) (v19 : BitVec 32) (v24 : BitVec 32) (k0_hw1 : k0_chk1 d0 v9 v14 v19 v24), (k0_dev5 d0 v9 v14 v19 v24) < nD := fun d0 v9 v14 v19 v24 k0_hw1 => k0_hw1.2.2.2.2.1
theorem k0_dev6_lt : ∀ (d0 : Dev nD) (v9 : BitVec 32) (v14 : BitVec 32) (v19 : BitVec 32) (v24 : BitVec 32) (k0_hw1 : k0_chk1 d0 v9 v14 v19 v24), (k0_dev6 d0 v9 v14 v19 v24) < nD := fun d0 v9 v14 v19 v24 k0_hw1 => k0_hw1.2.2.2.2.2.1
theorem k0_dev7_lt : ∀ (d0 : Dev nD) (v9 : BitVec 32) (v14 : BitVec 32) (v19 : BitVec 32) (v24 : BitVec 32) (k0_hw1 : k0_chk1 d0 v9 v14 v19 v24), (k0_dev7 d0 v9 v14 v19 v24) < nD := fun d0 v9 v14 v19 v24 k0_hw1 => k0_hw1.2.2.2.2.2.2.1
theorem k0_dev8_lt : ∀ (d0 : Dev nD) (v9 : BitVec 32) (v14 : BitVec 32) (v19 : BitVec 32) (v24 : BitVec 32) (k0_hw1 : k0_chk1 d0 v9 v14 v19 v24), (k0_dev8 d0 v9 v14 v19 v24) < nD := fun d0 v9 v14 v19 v24 k0_hw1 => k0_hw1.2.2.2.2.2.2.2.1
theorem k0_dev9_lt : ∀ (d0 : Dev nD) (v9 : BitVec 32) (v14 : BitVec 32) (v19 : BitVec 32) (v24 : BitVec 32) (k0_hw1 : k0_chk1 d0 v9 v14 v19 v24), (k0_dev9 d0 v9 v14 v19 v24) < nD := fun d0 v9 v14 v19 v24 k0_hw1 => k0_hw1.2.2.2.2.2.2.2.2.1
theorem k0_dev10_lt : ∀ (d0 : Dev nD) (v9 : BitVec 32) (v14 : BitVec 32) (v19 : BitVec 32) (v24 : BitVec 32) (k0_hw1 : k0_chk1 d0 v9 v14 v19 v24), (k0_dev10 d0 v9 v14 v19 v24) < nD := fun d0 v9 v14 v19 v24 k0_hw1 => k0_hw1.2.2.2.2.2.2.2.2.2.1
theorem k0_dev11_lt : ∀ (d0 : Dev nD) (v9 : BitVec 32) (v14 : BitVec 32) (v19 : BitVec 32) (v24 : BitVec 32) (k0_hw1 : k0_chk1 d0 v9 v14 v19 v24), (k0_dev11 d0 v9 v14 v19 v24) < nD := fun d0 v9 v14 v19 v24 k0_hw1 => k0_hw1.2.2.2.2.2.2.2.2.2.2.1
theorem k0_dev12_lt : ∀ (d0 : Dev nD) (v9 : BitVec 32) (v14 : BitVec 32) (v19 : BitVec 32) (v24 : BitVec 32) (k0_hw1 : k0_chk1 d0 v9 v14 v19 v24), (k0_dev12 d0 v9 v14 v19 v24) < nD := fun d0 v9 v14 v19 v24 k0_hw1 => k0_hw1.2.2.2.2.2.2.2.2.2.2.2.1
theorem k0_dev13_lt : ∀ (d0 : Dev nD) (v9 : BitVec 32) (v14 : BitVec 32) (v19 : BitVec 32) (v24 : BitVec 32) (k0_hw1 : k0_chk1 d0 v9 v14 v19 v24), (k0_dev13 d0 v9 v14 v19 v24) < nD := fun d0 v9 v14 v19 v24 k0_hw1 => k0_hw1.2.2.2.2.2.2.2.2.2.2.2.2.1
theorem k0_dev14_lt : ∀ (d0 : Dev nD) (v9 : BitVec 32) (v14 : BitVec 32) (v19 : BitVec 32) (v24 : BitVec 32) (k0_hw1 : k0_chk1 d0 v9 v14 v19 v24), (k0_dev14 d0 v9 v14 v19 v24) < nD := fun d0 v9 v14 v19 v24 k0_hw1 => k0_hw1.2.2.2.2.2.2.2.2.2.2.2.2.2.1
theorem k0_dev15_lt : ∀ (d0 : Dev nD) (v9 : BitVec 32) (v14 : BitVec 32) (v19 : BitVec 32) (v24 : BitVec 32) (k0_hw1 : k0_chk1 d0 v9 v14 v19 v24), (k0_dev15 d0 v9 v14 v19 v24) < nD := fun d0 v9 v14 v19 v24 k0_hw1 => k0_hw1.2.2.2.2.2.2.2.2.2.2.2.2.2.2.1
theorem k0_dev16_lt : ∀ (d0 : Dev nD) (v9 : BitVec 32) (v14 : BitVec 32) (v19 : BitVec 32) (v24 : BitVec 32) (k0_hw1 : k0_chk1 d0 v9 v14 v19 v24), (k0_dev16 d0 v9 v14 v19 v24) < nD := fun d0 v9 v14 v19 v24 k0_hw1 => k0_hw1.2.2.2.2.2.2.2.2.2.2.2.2.2.2.2.1
theorem k0_dev17_lt : ∀ (d0 : Dev nD) (v9 : BitVec 32) (v14 : BitVec 32) (v19 : BitVec 32) (v24 : BitVec 32) (k0_hw1 : k0_chk1 d0 v9 v14 v19 v24), (k0_dev17 d0 v9 v14 v19 v24) < nD := fun d0 v9 v14 v19 v24 k0_hw1 => k0_hw1.2.2.2.2.2.2.2.2.2.2.2.2.2.2.2.2.1
theorem k0_dev18_lt : ∀ (d0 : Dev nD) (v9 : BitVec 32) (v14 : BitVec 32) (v19 : BitVec 32) (v24 : BitVec 32) (k0_hw1 : k0_chk1 d0 v9 v14 v19 v24), (k0_dev18 d0 v9 v14 v19 v24) < nD := fun d0 v9 v14 v19 v24 k0_hw1 => k0_hw1.2.2.2.2.2.2.2.2.2.2.2.2.2.2.2.2.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x2048 : Shape := ⟨3, ![4, 4096, 2048]⟩
abbrev S4 : Shape := ⟨1, ![4]⟩
abbrev S_ : Shape := ⟨0, ![]⟩
abbrev S4x1 : Shape := ⟨2, ![4, 1]⟩
abbrev S4x4096 : Shape := ⟨2, ![4, 4096]⟩
abbrev S4x4096x1 : Shape := ⟨3, ![4, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x4096x2048, .f32⟩
  | .hbm, ⟨14, _⟩ => ⟨S4x4096x2048, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x2048, .f32⟩
  | .hbm, ⟨39, _⟩ => ⟨S4x4096x2048, .f32⟩
  | .hbm, ⟨40, _⟩ => ⟨S4x4096x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_cst_4 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Proof.Protocol.lean ====
/-
# The protocol of the exchange

Each device sends its array, in eight chunks of 512 rows, to the device the permutation names in its own group of
four. A chunk is loaded, quantised row by row to eight-bit integers with one scale per row, sent as a pair of
transfers, staged at the receiver, scaled back and written out. Every semaphore of every device is one cell of a
single schedule of rounds; a cell has at most one payment a round, and the payment of a round hands over the buffers
the matching wait takes back, with what they hold.

* `load s`, `st s`, `sst s`, `out s`: the local copies through slot `s` (rounds `0..3`, chunk `2 r + s`);
* `qs s`, `ss s`: the departures of the integers and of the scales from slot `s`;
* `qr k`, `sr k`: the arrivals of chunk `k`'s integers and scales (one round each), paid by the sending device;
* `bar`: the receiver's leave to send, carrying its sixteen landing slots; `ack`: the receiver is done.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic
public import Mathlib.Algebra.Order.BigOperators.Group.LocallyFinite
public import Mathlib.Tactic.DeriveFintype

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's resource algebra: rounds over the machine's cells, one payment name. -/
abbrev UB : Type := URounds (GSem nD τ sig) Unit
/-- The user part of the ghost state: the launch's rounds and those of the exchange. -/
abbrev UU : Type := UR sig nD τ × UB

local notation "𝕄" => MT nD τ sig Unit (Elt F) ℕ UU ℕ

/-- Where the launch's rounds live; -/
abbrev EP : Emb (UR sig nD τ) (MT nD τ sig Unit (Elt F) ℕ UU ℕ) := embL
/-- where the exchange's live. -/
abbrev ER : Emb UB (MT nD τ sig Unit (Elt F) ℕ UU ℕ) := embR

/-- No loop has a variant to count. -/
abbrev 𝒱₀ : Variants := Variants.none

/-! ## Who sends to whom -/

/-- The device `c`'s data goes to: in `c`'s group of four, the member `σ` names. -/
def nxt (σ : Equiv.Perm (Fin 4)) (c : Dev nD) : Dev nD :=
  ⟨4 * (c.val / 4) + (σ ⟨c.val % 4, Nat.mod_lt _ (by decide)⟩).val, by
    have h1 := c.isLt; have h2 := (σ ⟨c.val % 4, Nat.mod_lt _ (by decide)⟩).isLt
    have h3 : nD = 32 := rfl
    omega⟩

/-- The device whose data `c` receives. -/
abbrev prv (σ : Equiv.Perm (Fin 4)) (c : Dev nD) : Dev nD := nxt σ.symm c

/-- Going on by a permutation and back by its inverse returns to the same device. -/
theorem nxt_symm_nxt (σ : Equiv.Perm (Fin 4)) (c : Dev nD) : nxt σ.symm (nxt σ c) = c := by
  have h2 := (σ ⟨c.val % 4, Nat.mod_lt _ (by decide)⟩).isLt
  apply Fin.ext
  have e1 : (nxt σ c).val / 4 = c.val / 4 := by
    show (4 * (c.val / 4) + (σ ⟨c.val % 4, Nat.mod_lt _ (by decide)⟩).val) / 4 = _; omega
  have e2 : (⟨(nxt σ c).val % 4, Nat.mod_lt _ (by decide)⟩ : Fin 4) = σ ⟨c.val % 4, Nat.mod_lt _ (by decide)⟩ := by
    apply Fin.ext
    show (4 * (c.val / 4) + (σ ⟨c.val % 4, Nat.mod_lt _ (by decide)⟩).val) % 4 = _; omega
  show 4 * ((nxt σ c).val / 4) + (σ.symm ⟨(nxt σ c).val % 4, Nat.mod_lt _ (by decide)⟩).val = c.val
  rw [e1, e2, Equiv.symm_apply_apply]
  show 4 * (c.val / 4) + c.val % 4 = c.val
  omega
/-- The device before the next one is the device itself; -/
theorem prv_nxt (σ : Equiv.Perm (Fin 4)) (c : Dev nD) : prv σ (nxt σ c) = c := nxt_symm_nxt σ c
/-- so is the one after the previous. -/
theorem nxt_prv (σ : Equiv.Perm (Fin 4)) (c : Dev nD) : nxt σ (prv σ c) = c := by
  have := nxt_symm_nxt σ.symm c; rwa [Equiv.symm_symm] at this

/-- The devices permuted. -/
def around (σ : Equiv.Perm (Fin 4)) : Dev nD ≃ Dev nD := ⟨nxt σ, prv σ, prv_nxt σ, nxt_prv σ⟩

/-! ## The slots -/

/-- A slot of 512 rows lies in its pair of slots; -/
theorem inb_slot (s : Fin 2) : ∀ a, (![s.val, 0, 0] : Fin 3 → ℕ) a + S1x512x2048.size a ≤ S2x512x2048.size a := by
  fin_cases s <;> decide
/-- a slot of scales in its pair; -/
theorem inb_scal (s : Fin 2) : ∀ a, (![s.val, 0, 0] : Fin 3 → ℕ) a + S1x1x512.size a ≤ S2x1x512.size a := by
  fin_cases s <;> decide
/-- a landing slot in its eight; -/
theorem inb_land (k : Fin 8) : ∀ a, (![k.val, 0, 0] : Fin 3 → ℕ) a + S1x512x2048.size a ≤ S8x512x2048.size a := by
  fin_cases k <;> decide
/-- a landing slot of scales in its eight; -/
theorem inb_lscal (k : Fin 8) : ∀ a, (![k.val, 0, 0] : Fin 3 → ℕ) a + S1x1x512.size a ≤ S8x1x512.size a := by
  fin_cases k <;> decide
/-- a chunk's rows in the block. -/
theorem inb_rows (k : Fin 8) : ∀ a, (![0, 512 * k.val, 0] : Fin 3 → ℕ) a + S1x512x2048.size a ≤ S1x4096x2048.size a := by
  fin_cases k <;> decide

/-- Slot `s` of a pair of 512 by 2048; -/
abbrev slotR (s : Fin 2) : Rect S2x512x2048 := Rect.unit (s := S2x512x2048) ![s.val, 0, 0] S1x512x2048.size (inb_slot s)
/-- slot `s` of a pair of scales; -/
abbrev scalR (s : Fin 2) : Rect S2x1x512 := Rect.unit (s := S2x1x512) ![s.val, 0, 0] S1x1x512.size (inb_scal s)
/-- landing slot `k`; -/
abbrev landR (k : Fin 8) : Rect S8x512x2048 := Rect.unit (s := S8x512x2048) ![k.val, 0, 0] S1x512x2048.size (inb_land k)
/-- landing slot `k` of the scales; -/
abbrev lscalR (k : Fin 8) : Rect S8x1x512 := Rect.unit (s := S8x1x512) ![k.val, 0, 0] S1x1x512.size (inb_lscal k)
/-- the rows of chunk `k`. -/
abbrev rowsR (k : Fin 8) : Rect S1x4096x2048 := Rect.unit (s := S1x4096x2048) ![0, 512 * k.val, 0] S1x512x2048.size (inb_rows k)

/-- Chunk `k` of the device's own array; -/
abbrev xM (k : Fin 8) : Memref sig .tc .hbm S512x2048 .f32 :=
  ((Memref.whole main_arg0).slice (rowsR k) (fun _ => rfl)).squeeze S512x2048 squeezes_S1x512x2048_S512x2048
/-- of its result; -/
abbrev oM (k : Fin 8) : Memref sig .tc .hbm S512x2048 .bf16 :=
  ((Memref.whole main_v1_0).slice (rowsR k) (fun _ => rfl)).squeeze S512x2048 squeezes_S1x512x2048_S512x2048
/-- the landing slots of chunk `k`'s integers and scales; -/
abbrev qhM (k : Fin 8) : Memref sig .tc .hbm S512x2048 .i8 :=
  ((Memref.whole main_v1_1).slice (landR k) (fun _ => rfl)).squeeze S512x2048 squeezes_S1x512x2048_S512x2048
/-- the landing slots of chunk `k`'s scales; -/
abbrev shM (k : Fin 8) : Memref sig .tc .hbm S1x512 .f32 :=
  ((Memref.whole main_v1_2).slice (lscalR k) (fun _ => rfl)).squeeze S1x512 squeezes_S1x1x512_S1x512
/-- slot `s` of the loaded chunks, of the integers and scales to send, -/
abbrev fM (s : Fin 2) : Memref sig .tc .vmem S512x2048 .f32 :=
  ((Memref.whole cc0_scratch0).slice (slotR s) (fun _ => rfl)).squeeze S512x2048 squeezes_S1x512x2048_S512x2048
/-- the slots from which the integers are sent; -/
abbrev qM (s : Fin 2) : Memref sig .tc .vmem S512x2048 .i8 :=
  ((Memref.whole cc0_scratch1).slice (slotR s) (fun _ => rfl)).squeeze S512x2048 squeezes_S1x512x2048_S512x2048
/-- the slots from which the scales are sent; -/
abbrev sM (s : Fin 2) : Memref sig .tc .vmem S1x512 .f32 :=
  ((Memref.whole cc0_scratch2).slice (scalR s) (fun _ => rfl)).squeeze S1x512 squeezes_S1x1x512_S1x512
/-- of the staged integers and scales, and of the chunks to write out. -/
abbrev qtM (s : Fin 2) : Memref sig .tc .vmem S512x2048 .i8 :=
  ((Memref.whole cc0_scratch3).slice (slotR s) (fun _ => rfl)).squeeze S512x2048 squeezes_S1x512x2048_S512x2048
/-- the slots where received scales are staged; -/
abbrev stM (s : Fin 2) : Memref sig .tc .vmem S1x512 .f32 :=
  ((Memref.whole cc0_scratch4).slice (scalR s) (fun _ => rfl)).squeeze S1x512 squeezes_S1x1x512_S1x512
/-- the slots of restored rows. -/
abbrev obM (s : Fin 2) : Memref sig .tc .vmem S512x2048 .bf16 :=
  ((Memref.whole cc0_scratch5).slice (slotR s) (fun _ => rfl)).squeeze S512x2048 squeezes_S1x512x2048_S512x2048

/-- The chunk a slot carries in a round. -/
abbrev ck (s : Fin 2) (r : ℕ) : Fin 8 := ⟨(2 * r + s.val) % 8, Nat.mod_lt _ (by decide)⟩

/-! ## The values -/

/-- A chunk with its leading unit axis, as the loads read it; and without, as the transfers do. -/
abbrev up {e : EltTy} (v : Vec F S512x2048 e) : Vec F S1x512x2048 e := shapeCast S1x512x2048 v shapeCasts_S512x2048_S1x512x2048
/-- And without it; -/
abbrev dn {e : EltTy} (v : Vec F S1x512x2048 e) : Vec F S512x2048 e := shapeCast S512x2048 v shapeCasts_S1x512x2048_S512x2048
/-- the same for a row of scales, with the leading axis -/
abbrev ups {e : EltTy} (v : Vec F S1x512 e) : Vec F S1x1x512 e := shapeCast S1x1x512 v shapeCasts_S1x512_S1x1x512
/-- and without. -/
abbrev dns {e : EltTy} (v : Vec F S1x1x512 e) : Vec F S1x512 e := shapeCast S1x512 v shapeCasts_S1x1x512_S1x512

/-- The integers and the scales of a chunk, and the chunk they give back. -/
def quant (v : Vec F S512x2048 .f32) : Vec F S512x2048 .i8 := dn (F := F) (e := .i8) (k0_pay14 (F := F) (up v))
/-- The scales of a chunk, as the row that is sent. -/
def scal (v : Vec F S512x2048 .f32) : Vec F S1x512 .f32 := dns (F := F) (k0_pay16 (k0_pay15 (up v)))
/-- A chunk restored from its integers and scales. -/
def deq (q : Vec F S512x2048 .i8) (s : Vec F S1x512 .f32) : Vec F S512x2048 .bf16 := dn (F := F) (e := .bf16) (k0_pay40 (ups (F := F) s) (up (F := F) (e := .i8) q))

variable (m : (ℓ : Loc nD τ sig) → Buf (Elt F) ℓ)

/-- Chunk `k` of device `c`'s array, its integers and scales, and what `c` writes out. -/
def xch (c : Dev nD) (k : Fin 8) : Vec F S512x2048 .f32 := (xM k).view.read (Elt F) (m ((c : Thread nD τ).loc main_arg0))
/-- The integers of chunk `k` of device `c`'s array; -/
def qch (c : Dev nD) (k : Fin 8) : Vec F S512x2048 .i8 := quant (xch m c k)
/-- their scales; -/
def sch (c : Dev nD) (k : Fin 8) : Vec F S1x512 .f32 := scal (xch m c k)
/-- chunk `k` of device `c`'s result: that of the device before it, restored. -/
def och (σ : Equiv.Perm (Fin 4)) (c : Dev nD) (k : Fin 8) : Vec F S512x2048 .bf16 := deq (qch m (prv σ c) k) (sch m (prv σ c) k)

/-! ## The cells -/

/-- The semaphores of a device. -/
inductive Cix where
  | bar | ack
  | load (s : Fin 2) | qs (s : Fin 2) | ss (s : Fin 2) | qr (k : Fin 8) | sr (k : Fin 8)
  | st (s : Fin 2) | sst (s : Fin 2) | out (s : Fin 2)
  deriving DecidableEq, Fintype

/-- Their places in the pools. -/
def csem : Cix → SemLoc sig
  | .ack => .reg ⟨0, by decide⟩ | .bar => .reg ⟨1, by decide⟩
  | .load s => .dma ⟨1 + s.val, by have := s.isLt; show _ < 29; omega⟩
  | .qs s => .dma ⟨3 + s.val, by have := s.isLt; show _ < 29; omega⟩
  | .ss s => .dma ⟨5 + s.val, by have := s.isLt; show _ < 29; omega⟩
  | .qr k => .dma ⟨7 + k.val, by have := k.isLt; show _ < 29; omega⟩
  | .sr k => .dma ⟨15 + k.val, by have := k.isLt; show _ < 29; omega⟩
  | .st s => .dma ⟨23 + s.val, by have := s.isLt; show _ < 29; omega⟩
  | .sst s => .dma ⟨25 + s.val, by have := s.isLt; show _ < 29; omega⟩
  | .out s => .dma ⟨27 + s.val, by have := s.isLt; show _ < 29; omega⟩

/-- And back: every semaphore but the launch's own staging one is one of them. -/
def idx : SemLoc sig → Option Cix
  | .reg s => if s.val = 0 then some .ack else some .bar
  | .dma s =>
    if h : s.val = 0 then none
    else if h : s.val < 3 then some (.load ⟨s.val - 1, by omega⟩)
    else if h : s.val < 5 then some (.qs ⟨s.val - 3, by omega⟩)
    else if h : s.val < 7 then some (.ss ⟨s.val - 5, by omega⟩)
    else if h : s.val < 15 then some (.qr ⟨s.val - 7, by omega⟩)
    else if h : s.val < 23 then some (.sr ⟨s.val - 15, by omega⟩)
    else if h : s.val < 25 then some (.st ⟨s.val - 23, by omega⟩)
    else if h : s.val < 27 then some (.sst ⟨s.val - 25, by omega⟩)
    else some (.out ⟨s.val - 27, by have h2 : s.val < 29 := s.isLt; omega⟩)

/-- Reading a cell's place gives the cell. -/
theorem idx_csem : ∀ i, idx (csem i) = some i := by decide

/-- Distinct cells have distinct places. -/
theorem csem_injective : Function.Injective csem := fun i j h => by
  have := congrArg idx h; rw [idx_csem, idx_csem] at this; exact Option.some.inj this

/-- A cell of device `c`. -/
abbrev cell (c : Dev nD) (i : Cix) : GSem nD τ sig := ((c : Thread nD τ), csem i)

/-- How many rounds a cell runs, and the amount of each. -/
def rounds : Cix → ℕ
  | .bar | .ack | .qr _ | .sr _ => 1
  | _ => 4
/-- How much each round of a cell waits for: one signal, or the size of what is copied. -/
def amt : Cix → ℕ
  | .bar | .ack => 1
  | .load _ => (fM 0).view.dmaCredit
  | .qs _ | .qr _ | .st _ => (qhM 0).view.dmaCredit
  | .ss _ | .sr _ | .sst _ => (shM 0).view.dmaCredit
  | .out _ => (oM 0).view.dmaCredit
/-- No amount is zero. -/
theorem amt_pos (i : Cix) : 0 < amt i := by
  cases i <;> first | exact Nat.one_pos | exact View.dmaCredit_pos _ (by decide)

variable (σ : Equiv.Perm (Fin 4))

/-- What the payment of round `r` on `c`'s cell `i` hands over. -/
def pay (c : Dev nD) : Cix → ℕ → sProp 𝕄
  | .bar, _ => iprop((bigSep Finset.univ fun k : Fin 8 => iprop(∃ v, owns (nxt σ c : Thread nD τ) (qhM k) fullShare v))
      ∗ bigSep Finset.univ fun k : Fin 8 => iprop(∃ v, owns (nxt σ c : Thread nD τ) (shM k) fullShare v))
  | .ack, _ => iprop(emp)
  | .load s, r => iprop(owns (c : Thread nD τ) (fM s) fullShare (xch m c (ck s r)) ∗ owns (c : Thread nD τ) (xM (ck s r)) fullShare.right (xch m c (ck s r)))
  | .qs s, r => owns (c : Thread nD τ) (qM s) fullShare (qch m c (ck s r))
  | .ss s, r => owns (c : Thread nD τ) (sM s) fullShare (sch m c (ck s r))
  | .qr k, _ => owns (c : Thread nD τ) (qhM k) fullShare (qch m (prv σ c) k)
  | .sr k, _ => owns (c : Thread nD τ) (shM k) fullShare (sch m (prv σ c) k)
  | .st s, r => iprop(owns (c : Thread nD τ) (qtM s) fullShare (qch m (prv σ c) (ck s r)) ∗ owns (c : Thread nD τ) (qhM (ck s r)) fullShare (qch m (prv σ c) (ck s r)))
  | .sst s, r => iprop(owns (c : Thread nD τ) (stM s) fullShare (sch m (prv σ c) (ck s r)) ∗ owns (c : Thread nD τ) (shM (ck s r)) fullShare (sch m (prv σ c) (ck s r)))
  | .out s, r => iprop(owns (c : Thread nD τ) (oM (ck s r)) fullShare (och m σ c (ck s r)) ∗ owns (c : Thread nD τ) (obM s) fullShare (och m σ c (ck s r)))

/-- What a round hands over can be kept in an invariant. -/
instance pay_storable (c : Dev nD) (i : Cix) (r : ℕ) : BI.Storable (upEmb : UEmb _ 𝕄) (pay m σ c i r) := by
  cases i <;> unfold pay <;> infer_instance

/-- The schedule. -/
def sched : Rounds.Schedule (GSem nD τ sig) Unit 𝕄 where
  duties g r := match idx g.2 with
    | some i => if g.1.2 = .tc ∧ r < rounds i then {()} else ∅
    | none => ∅
  unitless _ := False
  amount g _ _ := match idx g.2 with
    | some i => amt i
    | none => 1
  payload g r _ := match idx g.2 with
    | some i => pay m σ g.1.1 i r
    | none => iprop(emp)
  amount_pos g _ _ _ := by
    cases h : idx g.2 with
    | some i => exact amt_pos i
    | none => exact Nat.one_pos

/-- The same of the schedule's payloads. -/
instance sched_storable (g : GSem nD τ sig) (r : ℕ) (d : Unit) :
    BI.Storable (upEmb : UEmb _ 𝕄) ((sched (F := F) m σ).payload g r d) := by
  show BI.Storable upEmb (match idx g.2 with
    | some i => pay m σ g.1.1 i r
    | none => iprop(emp))
  split <;> infer_instance

/-- A cell has one duty in each of its rounds, none afterwards. -/
theorem duties_eq (c : Dev nD) (i : Cix) (r : ℕ) : (sched (F := F) m σ).duties (cell c i) r = if r < rounds i then {()} else ∅ := by
  dsimp only [sched, cell]; rw [idx_csem]; dsimp only
  by_cases h : r < rounds i
  · rw [if_pos ⟨rfl, h⟩, if_pos h]
  · rw [if_neg (fun h' => h h'.2), if_neg h]
/-- The duty of a round that there is. -/
theorem duty_mem (c : Dev nD) (i : Cix) (r : ℕ) (h : r < rounds i) : () ∈ (sched (F := F) m σ).duties (cell c i) r := by
  rw [duties_eq, if_pos h]; exact Finset.mem_singleton_self _
/-- No duty from the last round on. -/
theorem duties_later (c : Dev nD) (i : Cix) (n : ℕ) (h : rounds i ≤ n) : ∀ r, n ≤ r → (sched (F := F) m σ).duties (cell c i) r = ∅ :=
  fun r hr => by rw [duties_eq, if_neg (by omega)]
/-- The schedule's amount at a cell; -/
theorem amount_eq (c : Dev nD) (i : Cix) (r : ℕ) (d : Unit) : (sched (F := F) m σ).amount (cell c i) r d = amt i := by
  dsimp only [sched, cell]; rw [idx_csem]
/-- its payload; -/
theorem payload_eq (c : Dev nD) (i : Cix) (r : ℕ) (d : Unit) : (sched (F := F) m σ).payload (cell c i) r d = pay m σ c i r := by
  dsimp only [sched, cell]; rw [idx_csem]
/-- what a round waits for in all; -/
theorem expect_eq (c : Dev nD) (i : Cix) (r : ℕ) (h : r < rounds i) : (sched (F := F) m σ).expect (cell c i) r = amt i := by
  unfold Schedule.expect Schedule.amountOf
  rw [duties_eq, if_pos h, Finset.sum_singleton, amount_eq]
/-- and what it hands over in all. -/
theorem rest_eq (c : Dev nD) (i : Cix) (r : ℕ) (h : r < rounds i) :
    bigSep ((sched (F := F) m σ).duties (cell c i) r \ ∅) (fun d => (sched (F := F) m σ).payload (cell c i) r d) = pay m σ c i r := by
  rw [Finset.sdiff_empty, duties_eq, if_pos h, bigSep_singleton, payload_eq]

/-! ## What a device owes, and the levels -/

/-- The cell of a device's `j`-th payment to another device: the leave to send, the sixteen arrivals in the order they are
    sent, the acknowledgement. -/
def dix : ℕ → Cix
  | 0 => .bar
  | 1 => .qr 0 | 2 => .sr 0 | 3 => .qr 1 | 4 => .sr 1 | 5 => .qr 2 | 6 => .sr 2 | 7 => .qr 3 | 8 => .sr 3
  | 9 => .qr 4 | 10 => .sr 4 | 11 => .qr 5 | 12 => .sr 5 | 13 => .qr 6 | 14 => .sr 6 | 15 => .qr 7 | 16 => .sr 7
  | _ => .ack
/-- Who receives it. -/
def dto (c : Dev nD) (i : Cix) : Dev nD := match i with
  | .bar | .ack => prv σ c
  | _ => nxt σ c

/-- What is still owed after the first `j` payments. -/
def owed (c : Dev nD) (j : ℕ) : CellTallies nD τ sig Unit :=
  ∑ l ∈ Finset.Ico j 18, tallyAt (cell (dto σ c (dix l)) (dix l)) () (amt (dix l))

/-- What is still owed at one step is what is owed at the next and that step's own signal or copy. -/
theorem owed_peel (c : Dev nD) (j : ℕ) (h : j < 18) :
    owed σ c j = owed σ c (j + 1) + tallyAt (cell (dto σ c (dix j)) (dix j)) () (amt (dix j)) := by
  unfold owed; rw [Finset.sum_eq_sum_Ico_succ_bot h, add_comm]
/-- After the last step nothing is owed. -/
theorem owed_last (c : Dev nD) : owed σ c 18 = 0 := by unfold owed; rw [Finset.Ico_self, Finset.sum_empty]

/-- Every semaphore of a core has the one index. -/
def L (g : GSem nD τ sig) : Finset Unit := if g.1.2 = .tc then {()} else ∅
/-- Local cells lowest, then the leave to send, the arrivals in order, the acknowledgement. -/
def lvl : Cix → ℕ
  | .bar => 1
  | .qr k | .sr k => 2 + k.val
  | .ack => 10
  | _ => 0
/-- The level of a semaphore: that of its cell. -/
def lv (g : GSem nD τ sig) (_ : Unit) : ℕ := match idx g.2 with
  | some i => lvl i
  | none => 0

/-- No index away from the cores; -/
theorem L_of_ne (g : GSem nD τ sig) (h : g.1.2 ≠ .tc) : L g = ∅ := if_neg h
/-- one on a core. -/
theorem L_tc (c : Dev nD) (sm : SemLoc sig) : L ((c : Thread nD τ), sm) = {()} := if_pos rfl
/-- The level of a cell. -/
theorem lv_cell (c : Dev nD) (i : Cix) (u : Unit) : lv (cell c i) u = lvl i := by dsimp only [lv, cell]; rw [idx_csem]

/-- What is owed is owed to the cell of a step still to come. -/
theorem owed_pos {c : Dev nD} {j : ℕ} {g : GSem nD τ sig} {u : Unit} (h : 0 < owed σ c j g u) :
    ∃ l, j ≤ l ∧ l < 18 ∧ g = cell (dto σ c (dix l)) (dix l) := by
  unfold owed at h
  rw [Finset.sum_apply, Finsupp.finset_sum_apply] at h
  obtain ⟨l, hl, hne⟩ := Finset.exists_ne_zero_of_sum_ne_zero (Nat.pos_iff_ne_zero.mp h)
  rw [tallyAt_apply] at hne
  obtain ⟨h1, h2⟩ := Finset.mem_Ico.mp hl
  by_cases hg : g = cell (dto σ c (dix l)) (dix l) ∧ u = ()
  · exact ⟨l, h1, h2, hg.1⟩
  · rw [if_neg hg] at hne; exact absurd rfl hne

/-- A device may wait on a semaphore below everything it still owes. -/
theorem mayWait_sem (c : Dev nD) (sm : SemLoc sig) (j n : ℕ) (hn : lv ((c : Thread nD τ), sm) () = n) (h : ∀ l, j ≤ l → l < 18 → n < lvl (dix l)) :
    (levAts L lv : sProp 𝕄) ⊢ MayWait (c : Thread nD τ) sm () (owed σ c j) :=
  MayOwe.of_cut (L := L) (lev := lv) n (fun p hp => by rw [Finset.mem_singleton.mp hp, L_tc]; exact Finset.mem_singleton_self _)
    (fun g u hg => by obtain ⟨l, -, -, rfl⟩ := owed_pos σ hg; rw [L_tc]; exact Finset.mem_singleton_self _)
    (fun p hp => by rw [Finset.mem_singleton.mp hp]; exact hn.le)
    (fun g u hg => by obtain ⟨l, h1, h2, rfl⟩ := owed_pos σ hg; rw [lv_cell]; exact h l h1 h2)
/-- A device may wait on a cell whose level lies below those of the steps still to come. -/
theorem mayWait_cell (c : Dev nD) (i : Cix) (j : ℕ) (h : ∀ l, j ≤ l → l < 18 → lvl i < lvl (dix l)) :
    (levAts L lv : sProp 𝕄) ⊢ MayWait (c : Thread nD τ) (csem i) () (owed σ c j) :=
  mayWait_sem σ c (csem i) j (lvl i) (lv_cell c i ()) h

end Cert.Exchange

end
-- ==== Proof.Steps.lean ====
/-
# One rule per effect

The kernel's effects are of seven kinds: a copy within the device, a transfer to another device, a wait, a signal,
a load of a slot, a store to a slot. Each rule below says, for one kind, what it takes from the device and what it
gives back, in the terms of the protocol (Protocol.lean): the state of a local channel is `chan` (idle, so many rounds
done) or `busy` (a round under way), a slot with known contents is `owns`, what the device still owes is `owing`.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (σ : Equiv.Perm (Fin 4)) (K : Dev nD × Cix → ℕ)

/-- What every device knows: all cells' invariants, that each has reached its first round, and the levels. -/
def records : sProp 𝕄 :=
  iprop((bigSep Finset.univ fun ck : Dev nD × Cix => cellInv ER (sched m σ) (K ck) (cell ck.1 ck.2))
    ∗ (bigSep Finset.univ fun ck : Dev nD × Cix => reached ER (cell ck.1 ck.2) 0) ∗ levAts L lv)

/-- The records may be used again and again. -/
instance records_persistent : BI.Persistent (records m σ K) := by unfold records; infer_instance

/-- From the records: a cell's invariant; -/
theorem records_inv (c : Dev nD) (i : Cix) : records m σ K ⊢ cellInv ER (sched m σ) (K (c, i)) (cell c i) := by
  unfold records
  have h : (bigSep Finset.univ fun ck : Dev nD × Cix => cellInv ER (sched m σ) (K ck) (cell ck.1 ck.2)) ⊢ cellInv ER (sched m σ) (K (c, i)) (cell c i) :=
    bigSep_elim (Finset.mem_univ (c, i))
  iintro ⟨H, -, -⟩
  iapply h; iexact H
/-- that each cell has reached its first round; -/
theorem records_reached (c : Dev nD) (i : Cix) : records m σ K ⊢ reached ER (cell c i) 0 := by
  unfold records
  have h : (bigSep Finset.univ fun ck : Dev nD × Cix => (reached ER (cell ck.1 ck.2) 0 : sProp 𝕄)) ⊢ reached ER (cell c i) 0 :=
    bigSep_elim (Finset.mem_univ (c, i))
  iintro ⟨-, H, -⟩
  iapply h; iexact H
/-- the levels; -/
theorem records_lev : records m σ K ⊢ (levAts L lv : sProp 𝕄) := by
  unfold records; iintro ⟨-, -, H⟩; iexact H

/-- and that a device may wait on a cell below everything it still owes. -/
theorem mayWait_records (c : Dev nD) (i : Cix) (j : ℕ) (hlev : ∀ l, j ≤ l → l < 18 → lvl i < lvl (dix l)) :
    records m σ K ⊢ MayWait (c : Thread nD τ) (csem i) () (owed σ c j) := by
  have h := mayWait_cell (F := F) σ c i j hlev
  unfold records
  iintro ⟨-, -, H⟩
  iapply h; iexact H

/-- Every cell has a round. -/
theorem rounds_pos : ∀ i, 0 < rounds i := by decide
/-- The payments of a cell's rounds from the `n`-th on. -/
def toks (c : Dev nD) (i : Cix) (n : ℕ) : sProp 𝕄 := bigSep (Finset.Ico n (rounds i)) fun r => dutyTok ER (cell c i) r ()
/-- The tokens of the rounds from `n` on are that of `n` and those from the next on. -/
theorem toks_peel (c : Dev nD) (i : Cix) (n : ℕ) (h : n < rounds i) :
    (toks c i n : sProp 𝕄) = iprop(dutyTok ER (cell c i) n () ∗ toks c i (n + 1)) := by
  unfold toks
  rw [← Finset.insert_Ico_add_one_left_eq_Ico h, bigSep_insert (by simp)]; rfl
/-- A cell past its last round has none left. -/
theorem toks_end (c : Dev nD) (i : Cix) (n : ℕ) (h : rounds i ≤ n) : (toks c i n : sProp 𝕄) = iprop(emp) := by
  unfold toks; rw [Finset.Ico_eq_empty (by omega), bigSep_empty]; rfl

/-- A channel with `n` rounds done and none under way; and with the `n`-th under way. -/
def chan (c : Dev nD) (i : Cix) (n : ℕ) : sProp 𝕄 := iprop(atPos ER (cell c i) n ∅ 0 ∗ reached ER (cell c i) n ∗ toks c i n)
/-- A cell whose round `n` has been set going and not yet waited for. -/
def busy (c : Dev nD) (i : Cix) (n : ℕ) : sProp 𝕄 :=
  iprop(cred (tallyAt (cell c i) () (amt i)) ∗ atPos ER (cell c i) n ∅ 0 ∗ toks c i (n + 1))
/-- What the device owes after its first `j` payments to others. -/
def owing (c : Dev nD) (j : ℕ) : sProp 𝕄 := iprop(∃ W, owes (c : Thread nD τ) (owed σ c j) W)

/-- A copy within the device, paying round `r` of the local cell `i`. -/
theorem step_copy (c : Dev nD) (i : Cix) (r : ℕ) (hr : r < rounds i) {sp sp' : Space} {s : Shape} {e : EltTy}
    {src : Memref sig .tc sp s e} {dst : Memref sig .tc sp' s e} {q : PosShare TreeShare} {v w : s.Idx → Elt F e}
    (hN : dst.view.amount (csem i) = amt i)
    (hpay : iprop(owns (c : Thread nD τ) dst fullShare v ∗ owns (c : Thread nD τ) src q v) ⊢ pay m σ c i r)
    {hsrc : src.view.WordExact} {hdst : dst.view.WordExact} {hsem : DmaTarget.Typed sp (csem i) (.here dst : DmaTarget nD τ sig (.tc : Proc τ) sp' s e)}
    {α : Type} {Q : α → sProp 𝕄} {k : PUnit → Prog (TpuEff nD τ sig (Elt F) Λ₀ .tc) α} :
    records m σ K ⊢ iprop(owns (c : Thread nD τ) src q v -∗ owns (c : Thread nD τ) dst fullShare w -∗ chan c i r
      -∗ (busy c i r -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.here dst) (csem i) hsrc hdst hsem) k) Q) := by
  unfold owns chan busy at *
  iintro #HR ⟨%fs, %hfs, Hs⟩ ⟨%fd, -, Hd⟩ ⟨Hat, Hre, Ht⟩ Hk
  ihave Ht := (Entails.of_eq (toks_peel c i r hr)) $$ Ht
  icases Ht with ⟨Ht, Hts⟩
  iapply (Rounds.wp_copy_pointsTo 𝒱₀ ER (sched m σ) (c : Thread nD τ) none (κ := K (c, i)) (duty_mem m σ c i r hr) () (amt i) hN (amount_eq m σ c i r ())
    (by
      rw [payload_eq]
      refine BIBase.Entails.trans ?_ hpay
      iintro ⟨H1, H2⟩
      isplitl [H1]
      · iexists (dst.view.write (Elt F) fd (src.view.read (Elt F) fs) Finset.univ); isplitr
        · ipureintro; exact (View.read_write_univ _ _).trans hfs
        iexact H1
      · iexists fs; isplitr; · ipureintro; exact hfs
        iexact H2)) $$ [Hs Hd Hre Ht] [Hk Hat Hts]
  · isplitr; · iapply (records_inv m σ K c i); iexact HR
    isplitl [Hs]; · iexact Hs
    isplitl [Hd]; · iexact Hd
    isplitl [Ht]; · iexact Ht
    iexact Hre
  · iintro Hc
    iapply Hk
    isplitl [Hc]; · iexact Hc
    isplitl [Hat]; · iexact Hat
    iexact Hts

/-- A transfer to the device `n` this device's data goes to: the `j`-th payment it owes, departing by round `r` of the local
    cell `i`. -/
theorem step_send (c n : Dev nD) (hn : n = nxt σ c) (i : Cix) (r : ℕ) (hr : r < rounds i) (j : ℕ) (hj : j < 18) (i' : Cix) (hi' : dix j = i') (hto : dto σ c i' = nxt σ c) {sp sp' : Space} {s : Shape} {e : EltTy}
    {src : Memref sig .tc sp s e} {dst : Memref sig .tc sp' s e} {v w : s.Idx → Elt F e}
    (hN : dst.view.amount (csem i') = amt i) (hN' : amt i' = amt i)
    (hpay : owns (c : Thread nD τ) src fullShare v ⊢ pay m σ c i r) (hpay' : owns (nxt σ c : Thread nD τ) dst fullShare v ⊢ pay m σ (nxt σ c) i' 0)
    {hsc : (dst : Memref sig (Dev.tc n : Thread nD τ).2.kind sp' s e).view.ref.isScScratch = false}
    {hsrc : src.view.WordExact} {hdst : dst.view.WordExact} {hsem : DmaTarget.Typed sp (csem i') (.remote (Dev.tc n : Thread nD τ) dst (csem i) hsc)}
    {α : Type} {Q : α → sProp 𝕄} {k : PUnit → Prog (TpuEff nD τ sig (Elt F) Λ₀ .tc) α} :
    records m σ K ⊢ iprop(owns (c : Thread nD τ) src fullShare v -∗ owns (nxt σ c : Thread nD τ) dst fullShare w -∗ chan c i r
      -∗ dutyTok ER (cell (nxt σ c) i') 0 () -∗ owing σ c j
      -∗ ((busy c i r ∗ owing σ c (j + 1)) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc n : Thread nD τ) dst (csem i) hsc) (csem i') hsrc hdst hsem) k) Q) := by
  subst hn
  have hr' : 0 < rounds i' := rounds_pos i'
  unfold owns chan busy owing at *
  iintro #HR ⟨%fs, %hfs, Hs⟩ ⟨%fd, -, Hd⟩ ⟨Hat, Hre, Ht⟩ Ht' ⟨%W, HO⟩ Hk
  ihave Ht := (Entails.of_eq (toks_peel c i r hr)) $$ Ht
  icases Ht with ⟨Ht, Hts⟩
  iapply (Rounds.wp_send_pointsTo 𝒱₀ ER (sched m σ) (c : Thread nD τ) none (κ₁ := K (c, i)) (κ₂ := K (nxt σ c, i'))
    (duty_mem m σ c i r hr) (duty_mem m σ (nxt σ c) i' 0 hr') () () (amt i) hN (amount_eq m σ c i r ()) ((amount_eq m σ (nxt σ c) i' 0 ()).trans hN')
    (O₀ := owed σ c j) (owed σ c (j + 1)) (by rw [owed_peel σ c j hj, hi', hto, hN']) (W := W)
    (by
      rw [payload_eq]
      refine BIBase.Entails.trans ?_ hpay
      iintro H1; iexists fs; isplitr; · ipureintro; exact hfs
      iexact H1)
    (by
      rw [payload_eq]
      refine BIBase.Entails.trans ?_ hpay'
      iintro H1; iexists (dst.view.write (Elt F) fd (src.view.read (Elt F) fs) Finset.univ); isplitr
      · ipureintro; exact (View.read_write_univ _ _).trans hfs
      iexact H1)) $$ [Hs Hd HO Ht Hre Ht'] [Hk Hat Hts]
  · isplitr; · iapply (records_inv m σ K c i); iexact HR
    isplitr; · iapply (records_inv m σ K (nxt σ c) i'); iexact HR
    isplitl [Hs]; · iexact Hs
    isplitl [Hd]; · iexact Hd
    isplitl [HO]; · iexact HO
    isplitl [Ht]; · iexact Ht
    isplitl [Hre]; · iexact Hre
    isplitl [Ht']; · iexact Ht'
    iapply (records_reached m σ K (nxt σ c) i'); iexact HR
  · iintro ⟨Hc, HO⟩
    iapply Hk
    isplitl [Hc Hat Hts]
    · isplitl [Hc]; · iexact Hc
      isplitl [Hat]; · iexact Hat
      iexact Hts
    iexists W; iexact HO

/-- A wait on cell `i` for its round under way, `j` payments made: the round's payload comes with it. -/
theorem step_wait (c : Dev nD) (i : Cix) (r : ℕ) (hr : r < rounds i) (j : ℕ) (hlev : ∀ l, j ≤ l → l < 18 → lvl i < lvl (dix l))
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem i) (amt i) K)
    {α : Type} {Q : α → sProp 𝕄} {k : PUnit → Prog (TpuEff nD τ sig (Elt F) Λ₀ .tc) α} :
    records m σ K ⊢ iprop(busy c i r -∗ owing σ c j
      -∗ ((pay m σ c i r ∗ chan c i (r + 1) ∗ owing σ c j) -∗ wp frame (wpE (defs₀ (F := F)) 𝒱₀ (c : Thread nD τ) none) Set.univ (k ⟨⟩) Q)
      -∗ wp frame (wpE (defs₀ (F := F)) 𝒱₀ (c : Thread nD τ) none) Set.univ (.op w k) Q) := by
  unfold chan busy owing
  iintro #HR ⟨Hc, Hat, Hts⟩ ⟨%W, HO⟩ Hk
  have hmay := mayWait_records m σ K c i j hlev
  iapply (Rounds.wp_wait_rest_token 𝒱₀ ER (sched m σ) (c : Thread nD τ) none (κ := K (c, i)) (sm := csem i) (k' := amt i) hw (Set.mem_univ _) () (O := owed σ c j) (W := W) (R := r) (m := 0) (T := ∅)
      ((Nat.zero_add _).trans (expect_eq m σ c i r hr).symm)) $$ [Hc HO Hat] [Hk Hts]
  · isplitr; · iapply (records_inv m σ K c i); iexact HR
    isplitl [Hc]; · iexact Hc
    isplitl [HO]; · iexact HO
    isplitr; · iapply hmay; iexact HR
    iexact Hat
  · iintro ⟨HO, Hat, Hre, Hp⟩
    iapply Hk
    isplitl [Hp]; · iapply (Entails.of_eq (rest_eq m σ c i r hr)); iexact Hp
    isplitl [Hat Hre Hts]
    · isplitl [Hat]; · iexact Hat
      isplitl [Hre]; · iexact Hre
      iexact Hts
    iexists _; iexact HO

/-- A signal to the device `n` this device receives from: the `j`-th payment it owes. -/
theorem step_signal (c n : Dev nD) (hn : n = prv σ c) (j : ℕ) (hj : j < 18) (i' : Cix) (hi' : dix j = i') (hto : dto σ c i' = prv σ c)
    {sem : Sem sig} (hsem : csem i' = .reg sem) {k' : ℕ} (hk' : amt i' = k')
    {α : Type} {Q : α → sProp 𝕄} {k : PUnit → Prog (TpuEff nD τ sig (Elt F) Λ₀ .tc) α} :
    records m σ K ⊢ iprop(dutyTok ER (cell (prv σ c) i') 0 () -∗ pay m σ (prv σ c) i' 0 -∗ owing σ c j
      -∗ (owing σ c (j + 1) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (Dev.tc n : Thread nD τ) sem k') k) Q) := by
  subst hn hk'
  have hr' : 0 < rounds i' := rounds_pos i'
  have hc : cell (prv σ c) i' = ((prv σ c : Thread nD τ), SemLoc.reg sem) := by unfold cell; rw [hsem]
  unfold owing
  iintro #HR Ht Hp ⟨%W, HO⟩ Hk
  iapply (Rounds.wp_signal 𝒱₀ ER (sched m σ) (c : Thread nD τ) none (dst := (prv σ c : Thread nD τ)) (κ := K (prv σ c, i')) (r := 0)
      (d := ()) (by rw [← hc]; exact duty_mem m σ (prv σ c) i' 0 hr') (by rw [← hc]; exact amount_eq m σ (prv σ c) i' 0 ()) () (O₀ := owed σ c j) (owed σ c (j + 1)) (by rw [owed_peel σ c j hj, hi', hto, hc]) (W := W)) $$ [HO Ht Hp] [Hk]
  · isplitr; · rw [← hc]; iapply (records_inv m σ K (prv σ c) i'); iexact HR
    isplitl [HO]; · iexact HO
    isplitl [Ht]; · rw [← hc]; iexact Ht
    isplitl [Hp]; · rw [← hc, payload_eq]; iexact Hp
    rw [← hc]; iapply (records_reached m σ K (prv σ c) i'); iexact HR
  · iintro HO
    iapply Hk
    iexists W; iexact HO

/-- A cell all of whose rounds are done closes: its counter is zero. -/
theorem step_close (c : Dev nD) (i : Cix) : records m σ K ⊢ iprop(chan c i (rounds i) -∗ |={Set.univ}=> semVal (cell c i) 0) := by
  unfold chan
  iintro #HR ⟨Hat, -, -⟩
  iapply (Rounds.cell_close ER (sched m σ) (Set.mem_univ (K (c, i))) (fun h => h) (R := rounds i) (duties_later m σ c i (rounds i) le_rfl))
  isplitr; · iapply (records_inv m σ K c i); iexact HR
  iexact Hat

/-- A load of the slot of a buffer `M` that the transfers name as a squeezed slice. -/
theorem step_load (c : Dev nD) {cs : CoreSpace} {s s' : Shape} {e : EltTy} {M : Memref sig .tc cs s e} {r : Rect s} {hr : ∀ a, r.stride a = 1}
    {hq : r.shape.Squeezes s'} (hc : s'.ShapeCasts r.shape) (hc' : r.shape.ShapeCasts s') {q : PosShare TreeShare} {v : s'.Idx → Elt F e} {hl : M.view.LoadsAt r}
    {α : Type} {Q : α → sProp 𝕄} {k : (r.shape.Idx → Elt F e) → Prog (TpuEff nD τ sig (Elt F) Λ₀ .tc) α} :
    owns (c : Thread nD τ) ((M.slice r hr).squeeze s' hq) q v
      ⊢ iprop((owns (c : Thread nD τ) ((M.slice r hr).squeeze s' hq) q v -∗ wp frame (wpE (defs₀ (F := F)) 𝒱₀ (c : Thread nD τ) none) Set.univ (k (shapeCast r.shape v hc)) Q)
        -∗ wp frame (wpE (defs₀ (F := F)) 𝒱₀ (c : Thread nD τ) none) Set.univ (.op (.load M r hl) k) Q) := by
  unfold owns
  iintro ⟨%f, %hf, H⟩ Hk
  iapply (wp_load_rect 𝒱₀ (c : Thread nD τ) none Set.univ (m := M) (r := r) (q := q) (f := f) (S := ((M.slice r hr).squeeze s' hq).view.set) (by
    show _ ⊆ ((M.access r).reshape s' hq.numel_eq).set
    rw [View.set_reshape])) $$ H
  iintro H
  have e : (M.access r).read (Elt F) f = shapeCast r.shape v hc := by
    rw [← hf, Memref.read_squeeze_slice M r hr hq hc' f, shapeCast_shapeCast]; rfl
  rw [e]
  iapply Hk
  iexists f; isplitr; · ipureintro; exact hf
  iexact H

/-- A store to such a slot. -/
theorem step_store (c : Dev nD) {cs : CoreSpace} {s s' : Shape} {e : EltTy} {M : Memref sig .tc cs s e} {r : Rect s} {hr : ∀ a, r.stride a = 1}
    {hq : r.shape.Squeezes s'} (hc' : r.shape.ShapeCasts s') {v : s'.Idx → Elt F e} {w : r.shape.Idx → Elt F e}
    {hx : (M.access r).Stores Finset.univ} {hm : (Finset.univ : Finset r.shape.Idx) = Finset.univ ∨ _}
    {α : Type} {Q : α → sProp 𝕄} {k : PUnit → Prog (TpuEff nD τ sig (Elt F) Λ₀ .tc) α} :
    owns (c : Thread nD τ) ((M.slice r hr).squeeze s' hq) fullShare v
      ⊢ iprop((owns (c : Thread nD τ) ((M.slice r hr).squeeze s' hq) fullShare (shapeCast s' w hc') -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  unfold owns
  iintro ⟨%f, -, H⟩ Hk
  iapply (wp_store 𝒱₀ (c : Thread nD τ) none Set.univ (m := M) (r := r) (f := f) (S := ((M.slice r hr).squeeze s' hq).view.set) (by
    show _ ⊆ ((M.access r).reshape s' hq.numel_eq).set
    rw [View.set_reshape]; exact subset_of_eq (View.setOn_univ _))) $$ H
  iintro H
  iapply Hk
  iexists ((M.access r).write (Elt F) f w Finset.univ); isplitr
  · ipureintro
    rw [Memref.read_squeeze_slice M r hr hq hc']
    exact congrArg (fun x => shapeCast s' x hc') (View.read_write_univ (v := M.access r) f w)
  iexact H

/-! ## The same, cell by cell

What the transfers move and what the waits give back, read off the schedule. -/

section kinds
variable {sp : Space}
/-- The amounts of the copies, cell by cell: a load; -/
theorem amount_load (s : Fin 2) (M : Memref sig .tc sp S512x2048 .f32) : M.view.amount (csem (.load s)) = amt (.load s) := rfl
/-- the staging of integers; -/
theorem amount_st (s : Fin 2) (M : Memref sig .tc sp S512x2048 .i8) : M.view.amount (csem (.st s)) = amt (.st s) := rfl
/-- the staging of scales; -/
theorem amount_sst (s : Fin 2) (M : Memref sig .tc sp S1x512 .f32) : M.view.amount (csem (.sst s)) = amt (.sst s) := rfl
/-- a write-out; -/
theorem amount_out (s : Fin 2) (M : Memref sig .tc sp S512x2048 .bf16) : M.view.amount (csem (.out s)) = amt (.out s) := rfl
/-- the arrival of integers; -/
theorem amount_q (k : Fin 8) (M : Memref sig .tc sp S512x2048 .i8) : M.view.amount (csem (.qr k)) = amt (.qr k) := rfl
/-- the arrival of scales. -/
theorem amount_s (k : Fin 8) (M : Memref sig .tc sp S1x512 .f32) : M.view.amount (csem (.sr k)) = amt (.sr k) := rfl
/-- The same amounts as the waits name them: a load; -/
theorem credit_load (s : Fin 2) (M : Memref sig .tc sp S512x2048 .f32) : M.view.dmaCredit = amt (.load s) := rfl
/-- integers; -/
theorem credit_q (k : Fin 8) (M : Memref sig .tc sp S512x2048 .i8) : M.view.dmaCredit = amt (.qr k) := rfl
/-- scales; -/
theorem credit_s (k : Fin 8) (M : Memref sig .tc sp S1x512 .f32) : M.view.dmaCredit = amt (.sr k) := rfl
/-- a write-out. -/
theorem credit_out (s : Fin 2) (M : Memref sig .tc sp S512x2048 .bf16) : M.view.dmaCredit = amt (.out s) := rfl
end kinds

/-- Every step's cell lies above the lowest level. -/
theorem dix_pos (l : ℕ) : 0 < lvl (dix l) := by
  unfold dix; split <;> decide

/-- Chunk `ck s r` into slot `s`. -/
theorem copy_load (c : Dev nD) (s : Fin 2) (r : ℕ) (hr : r < 4) {w : S512x2048.Idx → Elt F .f32} {sem : DmaSem sig} (hs : csem (.load s) = .dma sem)
    {hsrc : (xM (ck s r)).view.WordExact} {hdst : (fM s).view.WordExact} {hsem}
    {α : Type} {Q : α → sProp 𝕄} {k : PUnit → Prog (TpuEff nD τ sig (Elt F) Λ₀ .tc) α} :
    records m σ K ⊢ iprop(owns (c : Thread nD τ) (xM (ck s r)) fullShare.right (xch m c (ck s r)) -∗ owns (c : Thread nD τ) (fM s) fullShare w -∗ chan c (.load s) r
      -∗ (busy c (.load s) r -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (xM (ck s r)) (.here (fM s)) (.dma sem) hsrc hdst hsem) k) Q) := by
  revert hsem; rw [← hs]; intro hsem
  exact step_copy m σ K c (.load s) r hr (amount_load s _) .rfl
/-- The integers that landed, into slot `s`. -/
theorem copy_st (c : Dev nD) (s : Fin 2) (r : ℕ) (hr : r < 4) {w : S512x2048.Idx → Elt F .i8} {sem : DmaSem sig} (hs : csem (.st s) = .dma sem)
    {hsrc : (qhM (ck s r)).view.WordExact} {hdst : (qtM s).view.WordExact} {hsem}
    {α : Type} {Q : α → sProp 𝕄} {k : PUnit → Prog (TpuEff nD τ sig (Elt F) Λ₀ .tc) α} :
    records m σ K ⊢ iprop(owns (c : Thread nD τ) (qhM (ck s r)) fullShare (qch m (prv σ c) (ck s r)) -∗ owns (c : Thread nD τ) (qtM s) fullShare w -∗ chan c (.st s) r
      -∗ (busy c (.st s) r -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (qhM (ck s r)) (.here (qtM s)) (.dma sem) hsrc hdst hsem) k) Q) := by
  revert hsem; rw [← hs]; intro hsem
  exact step_copy m σ K c (.st s) r hr (amount_st s _) .rfl
/-- The scales that landed, into slot `s`. -/
theorem copy_sst (c : Dev nD) (s : Fin 2) (r : ℕ) (hr : r < 4) {w : S1x512.Idx → Elt F .f32} {sem : DmaSem sig} (hs : csem (.sst s) = .dma sem)
    {hsrc : (shM (ck s r)).view.WordExact} {hdst : (stM s).view.WordExact} {hsem}
    {α : Type} {Q : α → sProp 𝕄} {k : PUnit → Prog (TpuEff nD τ sig (Elt F) Λ₀ .tc) α} :
    records m σ K ⊢ iprop(owns (c : Thread nD τ) (shM (ck s r)) fullShare (sch m (prv σ c) (ck s r)) -∗ owns (c : Thread nD τ) (stM s) fullShare w -∗ chan c (.sst s) r
      -∗ (busy c (.sst s) r -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (shM (ck s r)) (.here (stM s)) (.dma sem) hsrc hdst hsem) k) Q) := by
  revert hsem; rw [← hs]; intro hsem
  exact step_copy m σ K c (.sst s) r hr (amount_sst s _) .rfl
/-- The finished chunk, from slot `s` into the result. -/
theorem copy_out (c : Dev nD) (s : Fin 2) (r : ℕ) (hr : r < 4) {w : S512x2048.Idx → Elt F .bf16} {sem : DmaSem sig} (hs : csem (.out s) = .dma sem)
    {hsrc : (obM s).view.WordExact} {hdst : (oM (ck s r)).view.WordExact} {hsem}
    {α : Type} {Q : α → sProp 𝕄} {k : PUnit → Prog (TpuEff nD τ sig (Elt F) Λ₀ .tc) α} :
    records m σ K ⊢ iprop(owns (c : Thread nD τ) (obM s) fullShare (och m σ c (ck s r)) -∗ owns (c : Thread nD τ) (oM (ck s r)) fullShare w -∗ chan c (.out s) r
      -∗ (busy c (.out s) r -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (obM s) (.here (oM (ck s r))) (.dma sem) hsrc hdst hsem) k) Q) := by
  revert hsem; rw [← hs]; intro hsem
  exact step_copy m σ K c (.out s) r hr (amount_out s _) .rfl
/-- The integers of chunk `ck s r`, to the device they go to. -/
theorem send_q (c n : Dev nD) (hn : n = nxt σ c) (s : Fin 2) (r : ℕ) (hr : r < 4) (j : ℕ) (hj : j < 18) (hd : dix j = .qr (ck s r)) {w : S512x2048.Idx → Elt F .i8}
    {sem sem' : DmaSem sig} (hs : csem (.qs s) = .dma sem) (hs' : csem (.qr (ck s r)) = .dma sem')
    {hsc} {hsrc : (qM s).view.WordExact} {hdst : (qhM (ck s r)).view.WordExact} {hsem}
    {α : Type} {Q : α → sProp 𝕄} {k : PUnit → Prog (TpuEff nD τ sig (Elt F) Λ₀ .tc) α} :
    records m σ K ⊢ iprop(owns (c : Thread nD τ) (qM s) fullShare (qch m c (ck s r)) -∗ owns (nxt σ c : Thread nD τ) (qhM (ck s r)) fullShare w -∗ chan c (.qs s) r
      -∗ dutyTok ER (cell (nxt σ c) (.qr (ck s r))) 0 () -∗ owing σ c j
      -∗ ((busy c (.qs s) r ∗ owing σ c (j + 1)) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (qM s) (.remote (Dev.tc n : Thread nD τ) (qhM (ck s r)) (.dma sem) hsc) (.dma sem') hsrc hdst hsem) k) Q) := by
  revert hsem; rw [← hs, ← hs']; intro hsem
  exact step_send m σ K c n hn (.qs s) r hr j hj (.qr (ck s r)) hd rfl (amount_q (ck s r) _) rfl .rfl (by unfold pay; rw [prv_nxt])
/-- Its scales. -/
theorem send_s (c n : Dev nD) (hn : n = nxt σ c) (s : Fin 2) (r : ℕ) (hr : r < 4) (j : ℕ) (hj : j < 18) (hd : dix j = .sr (ck s r)) {w : S1x512.Idx → Elt F .f32}
    {sem sem' : DmaSem sig} (hs : csem (.ss s) = .dma sem) (hs' : csem (.sr (ck s r)) = .dma sem')
    {hsc} {hsrc : (sM s).view.WordExact} {hdst : (shM (ck s r)).view.WordExact} {hsem}
    {α : Type} {Q : α → sProp 𝕄} {k : PUnit → Prog (TpuEff nD τ sig (Elt F) Λ₀ .tc) α} :
    records m σ K ⊢ iprop(owns (c : Thread nD τ) (sM s) fullShare (sch m c (ck s r)) -∗ owns (nxt σ c : Thread nD τ) (shM (ck s r)) fullShare w -∗ chan c (.ss s) r
      -∗ dutyTok ER (cell (nxt σ c) (.sr (ck s r))) 0 () -∗ owing σ c j
      -∗ ((busy c (.ss s) r ∗ owing σ c (j + 1)) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (sM s) (.remote (Dev.tc n : Thread nD τ) (shM (ck s r)) (.dma sem) hsc) (.dma sem') hsrc hdst hsem) k) Q) := by
  revert hsem; rw [← hs, ← hs']; intro hsem
  exact step_send m σ K c n hn (.ss s) r hr j hj (.sr (ck s r)) hd rfl (amount_s (ck s r) _) rfl .rfl (by unfold pay; rw [prv_nxt])
/-- The load of slot `s` is in. -/
theorem wait_load (c : Dev nD) (s : Fin 2) (r : ℕ) (hr : r < 4) (j : ℕ)  {sem : DmaSem sig} (hs : csem (.load s) = .dma sem)
    {sp' sp : Space} {s' : Shape} {e' : EltTy} {src : Memref sig .tc sp' s' e'} {dst : Memref sig .tc sp S512x2048 .f32} {hsrc : src.view.WordExact} {hdst : dst.view.WordExact}
    {α : Type} {Q : α → sProp 𝕄} {k : PUnit → Prog (TpuEff nD τ sig (Elt F) Λ₀ .tc) α} :
    records m σ K ⊢ iprop(busy c (.load s) r -∗ owing σ c j
      -∗ (((owns (c : Thread nD τ) (fM s) fullShare (xch m c (ck s r)) ∗ owns (c : Thread nD τ) (xM (ck s r)) fullShare.right (xch m c (ck s r))) ∗ chan c (.load s) (r + 1) ∗ owing σ c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) :=
  step_wait m σ K c (.load s) r hr j (fun l _ _ => dix_pos l) (fun P => by
    rw [wpE_waitDma2_eq, hs, credit_load s])
/-- The integers have left slot `s`. -/
theorem wait_qs (c : Dev nD) (s : Fin 2) (r : ℕ) (hr : r < 4) (j : ℕ)  {sem : DmaSem sig} (hs : csem (.qs s) = .dma sem)
    {sp' sp : Space} {s' : Shape} {e' : EltTy} {src : Memref sig .tc sp' s' e'} {dst : Memref sig .tc sp S512x2048 .i8} {hsrc : src.view.WordExact} {hdst : dst.view.WordExact}
    {α : Type} {Q : α → sProp 𝕄} {k : PUnit → Prog (TpuEff nD τ sig (Elt F) Λ₀ .tc) α} :
    records m σ K ⊢ iprop(busy c (.qs s) r -∗ owing σ c j
      -∗ (((owns (c : Thread nD τ) (qM s) fullShare (qch m c (ck s r))) ∗ chan c (.qs s) (r + 1) ∗ owing σ c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) :=
  step_wait m σ K c (.qs s) r hr j (fun l _ _ => dix_pos l) (fun P => by
    rw [wpE_waitDma2_eq, hs, credit_q 0]; rfl)
/-- The scales have left slot `s`. -/
theorem wait_ss (c : Dev nD) (s : Fin 2) (r : ℕ) (hr : r < 4) (j : ℕ)  {sem : DmaSem sig} (hs : csem (.ss s) = .dma sem)
    {sp' sp : Space} {s' : Shape} {e' : EltTy} {src : Memref sig .tc sp' s' e'} {dst : Memref sig .tc sp S1x512 .f32} {hsrc : src.view.WordExact} {hdst : dst.view.WordExact}
    {α : Type} {Q : α → sProp 𝕄} {k : PUnit → Prog (TpuEff nD τ sig (Elt F) Λ₀ .tc) α} :
    records m σ K ⊢ iprop(busy c (.ss s) r -∗ owing σ c j
      -∗ (((owns (c : Thread nD τ) (sM s) fullShare (sch m c (ck s r))) ∗ chan c (.ss s) (r + 1) ∗ owing σ c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) :=
  step_wait m σ K c (.ss s) r hr j (fun l _ _ => dix_pos l) (fun P => by
    rw [wpE_waitDma2_eq, hs, credit_s 0]; rfl)
/-- The integers of chunk `k` have landed. -/
theorem wait_qr (c : Dev nD) (k : Fin 8)  (j : ℕ) (hlev : ∀ l : Fin 18, j ≤ l.val → lvl (.qr k) < lvl (dix l)) {sem : DmaSem sig} (hs : csem (.qr k) = .dma sem)
    {sp' sp : Space} {s' : Shape} {e' : EltTy} {src : Memref sig .tc sp' s' e'} {dst : Memref sig .tc sp S512x2048 .i8} {hsrc : src.view.WordExact} {hdst : dst.view.WordExact}
    {α : Type} {Q : α → sProp 𝕄} {k' : PUnit → Prog (TpuEff nD τ sig (Elt F) Λ₀ .tc) α} :
    records m σ K ⊢ iprop(busy c (.qr k) 0 -∗ owing σ c j
      -∗ (((owns (c : Thread nD τ) (qhM k) fullShare (qch m (prv σ c) k)) ∗ chan c (.qr k) (0 + 1) ∗ owing σ c j) -∗ wp frame (wpE (defs₀ (F := F)) 𝒱₀ (c : Thread nD τ) none) Set.univ (k' ⟨⟩) Q)
      -∗ wp frame (wpE (defs₀ (F := F)) 𝒱₀ (c : Thread nD τ) none) Set.univ (.op (.waitDma2 sem src dst hsrc hdst) k') Q) :=
  step_wait m σ K c (.qr k) 0 (rounds_pos _) j (fun l h1 h2 => hlev ⟨l, h2⟩ h1) (fun P => by
    rw [wpE_waitDma2_eq, hs, credit_q k])
/-- Its scales have landed. -/
theorem wait_sr (c : Dev nD) (k : Fin 8)  (j : ℕ) (hlev : ∀ l : Fin 18, j ≤ l.val → lvl (.sr k) < lvl (dix l)) {sem : DmaSem sig} (hs : csem (.sr k) = .dma sem)
    {sp' sp : Space} {s' : Shape} {e' : EltTy} {src : Memref sig .tc sp' s' e'} {dst : Memref sig .tc sp S1x512 .f32} {hsrc : src.view.WordExact} {hdst : dst.view.WordExact}
    {α : Type} {Q : α → sProp 𝕄} {k' : PUnit → Prog (TpuEff nD τ sig (Elt F) Λ₀ .tc) α} :
    records m σ K ⊢ iprop(busy c (.sr k) 0 -∗ owing σ c j
      -∗ (((owns (c : Thread nD τ) (shM k) fullShare (sch m (prv σ c) k)) ∗ chan c (.sr k) (0 + 1) ∗ owing σ c j) -∗ wp frame (wpE (defs₀ (F := F)) 𝒱₀ (c : Thread nD τ) none) Set.univ (k' ⟨⟩) Q)
      -∗ wp frame (wpE (defs₀ (F := F)) 𝒱₀ (c : Thread nD τ) none) Set.univ (.op (.waitDma2 sem src dst hsrc hdst) k') Q) :=
  step_wait m σ K c (.sr k) 0 (rounds_pos _) j (fun l h1 h2 => hlev ⟨l, h2⟩ h1) (fun P => by
    rw [wpE_waitDma2_eq, hs, credit_s k])
/-- The integers are in the staging slot `s`. -/
theorem wait_st (c : Dev nD) (s : Fin 2) (r : ℕ) (hr : r < 4) (j : ℕ)  {sem : DmaSem sig} (hs : csem (.st s) = .dma sem)
    {sp' sp : Space} {s' : Shape} {e' : EltTy} {src : Memref sig .tc sp' s' e'} {dst : Memref sig .tc sp S512x2048 .i8} {hsrc : src.view.WordExact} {hdst : dst.view.WordExact}
    {α : Type} {Q : α → sProp 𝕄} {k : PUnit → Prog (TpuEff nD τ sig (Elt F) Λ₀ .tc) α} :
    records m σ K ⊢ iprop(busy c (.st s) r -∗ owing σ c j
      -∗ (((owns (c : Thread nD τ) (qtM s) fullShare (qch m (prv σ c) (ck s r)) ∗ owns (c : Thread nD τ) (qhM (ck s r)) fullShare (qch m (prv σ c) (ck s r))) ∗ chan c (.st s) (r + 1) ∗ owing σ c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) :=
  step_wait m σ K c (.st s) r hr j (fun l _ _ => dix_pos l) (fun P => by
    rw [wpE_waitDma2_eq, hs, credit_q 0]; rfl)
/-- The scales are in the staging slot `s`. -/
theorem wait_sst (c : Dev nD) (s : Fin 2) (r : ℕ) (hr : r < 4) (j : ℕ)  {sem : DmaSem sig} (hs : csem (.sst s) = .dma sem)
    {sp' sp : Space} {s' : Shape} {e' : EltTy} {src : Memref sig .tc sp' s' e'} {dst : Memref sig .tc sp S1x512 .f32} {hsrc : src.view.WordExact} {hdst : dst.view.WordExact}
    {α : Type} {Q : α → sProp 𝕄} {k : PUnit → Prog (TpuEff nD τ sig (Elt F) Λ₀ .tc) α} :
    records m σ K ⊢ iprop(busy c (.sst s) r -∗ owing σ c j
      -∗ (((owns (c : Thread nD τ) (stM s) fullShare (sch m (prv σ c) (ck s r)) ∗ owns (c : Thread nD τ) (shM (ck s r)) fullShare (sch m (prv σ c) (ck s r))) ∗ chan c (.sst s) (r + 1) ∗ owing σ c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) :=
  step_wait m σ K c (.sst s) r hr j (fun l _ _ => dix_pos l) (fun P => by
    rw [wpE_waitDma2_eq, hs, credit_s 0]; rfl)
/-- The finished chunk is in the result. -/
theorem wait_out (c : Dev nD) (s : Fin 2) (r : ℕ) (hr : r < 4) (j : ℕ)  {sem : DmaSem sig} (hs : csem (.out s) = .dma sem)
    {sp' sp : Space} {s' : Shape} {e' : EltTy} {src : Memref sig .tc sp' s' e'} {dst : Memref sig .tc sp S512x2048 .bf16} {hsrc : src.view.WordExact} {hdst : dst.view.WordExact}
    {α : Type} {Q : α → sProp 𝕄} {k : PUnit → Prog (TpuEff nD τ sig (Elt F) Λ₀ .tc) α} :
    records m σ K ⊢ iprop(busy c (.out s) r -∗ owing σ c j
      -∗ (((owns (c : Thread nD τ) (oM (ck s r)) fullShare (och m σ c (ck s r)) ∗ owns (c : Thread nD τ) (obM s) fullShare (och m σ c (ck s r))) ∗ chan c (.out s) (r + 1) ∗ owing σ c j) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) :=
  step_wait m σ K c (.out s) r hr j (fun l _ _ => dix_pos l) (fun P => by
    rw [wpE_waitDma2_eq, hs, credit_out s])
/-- The signal giving leave to send, with this device's landing slots; -/
theorem signal_bar (c n : Dev nD) (hn : n = prv σ c) {sem : Sem sig} (hs : csem .bar = .reg sem)
    {α : Type} {Q : α → sProp 𝕄} {k : PUnit → Prog (TpuEff nD τ sig (Elt F) Λ₀ .tc) α} :
    records m σ K ⊢ iprop(dutyTok ER (cell (prv σ c) .bar) 0 () -∗ pay m σ (prv σ c) .bar 0 -∗ owing σ c 0
      -∗ (owing σ c 1 -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (Dev.tc n : Thread nD τ) sem (BitVec.toInt 1#32)) k) Q) :=
  step_signal m σ K c n hn 0 (by decide) .bar rfl rfl hs (k' := 1) rfl
/-- and the one saying that all is read. -/
theorem signal_ack (c n : Dev nD) (hn : n = prv σ c) {sem : Sem sig} (hs : csem .ack = .reg sem)
    {α : Type} {Q : α → sProp 𝕄} {k : PUnit → Prog (TpuEff nD τ sig (Elt F) Λ₀ .tc) α} :
    records m σ K ⊢ iprop(dutyTok ER (cell (prv σ c) .ack) 0 () -∗ owing σ c 17
      -∗ (owing σ c 18 -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (Dev.tc n : Thread nD τ) sem (BitVec.toInt 1#32)) k) Q) := by
  have h := step_signal m σ K c n hn 17 (by decide) .ack rfl rfl hs (k' := 1) rfl (Q := Q) (k := k)
  iintro #HR Ht HO Hk
  iapply h $$ HR Ht [] HO Hk
  unfold pay; iempintro
/-- The leave to send is there, with the landing slots at the receiver; -/
theorem wait_bar (c : Dev nD) {sem : Sem sig} (hs : csem .bar = .reg sem)
    {α : Type} {Q : α → sProp 𝕄} {k : PUnit → Prog (TpuEff nD τ sig (Elt F) Λ₀ .tc) α} :
    records m σ K ⊢ iprop(busy c .bar 0 -∗ owing σ c 1
      -∗ ((((bigSep Finset.univ fun k : Fin 8 => iprop(∃ v, owns (nxt σ c : Thread nD τ) (qhM k) fullShare v))
            ∗ bigSep Finset.univ fun k : Fin 8 => iprop(∃ v, owns (nxt σ c : Thread nD τ) (shM k) fullShare v)) ∗ chan c .bar 1 ∗ owing σ c 1) -∗ wp frame (wpE (defs₀ (F := F)) 𝒱₀ (c : Thread nD τ) none) Set.univ (k ⟨⟩) Q)
      -∗ wp frame (wpE (defs₀ (F := F)) 𝒱₀ (c : Thread nD τ) none) Set.univ (.op (.semWait sem (BitVec.toInt 1#32)) k) Q) :=
  step_wait m σ K c .bar 0 (by decide) 1 (fun l h1 h2 => (show ∀ l : Fin 18, 1 ≤ l.val → lvl .bar < lvl (dix l) by decide) ⟨l, h2⟩ h1) (fun P => by rw [hs]; rfl)
/-- and the receiver has read everything. -/
theorem wait_ack (c : Dev nD) {sem : Sem sig} (hs : csem .ack = .reg sem)
    {α : Type} {Q : α → sProp 𝕄} {k : PUnit → Prog (TpuEff nD τ sig (Elt F) Λ₀ .tc) α} :
    records m σ K ⊢ iprop(busy c .ack 0 -∗ owing σ c 18
      -∗ ((emp ∗ chan c .ack 1 ∗ owing σ c 18) -∗ wp frame (wpE (defs₀ (F := F)) 𝒱₀ (c : Thread nD τ) none) Set.univ (k ⟨⟩) Q)
      -∗ wp frame (wpE (defs₀ (F := F)) 𝒱₀ (c : Thread nD τ) none) Set.univ (.op (.semWait sem (BitVec.toInt 1#32)) k) Q) :=
  step_wait m σ K c .ack 0 (by decide) 18 (fun l h1 h2 => absurd h2 (by omega)) (fun P => by rw [hs]; rfl)

/-! ## Loads and stores, buffer by buffer -/

/-- A load of slot `s` of the chunks as they are loaded; -/
theorem load_f (c : Dev nD) (s : Fin 2) {v : Vec F S512x2048 .f32} {hl : (Memref.whole cc0_scratch0).view.LoadsAt (slotR s)}
    {α : Type} {Q : α → sProp 𝕄} {k : ((slotR s).shape.Idx → Elt F .f32) → Prog (TpuEff nD τ sig (Elt F) Λ₀ .tc) α} :
    owns (c : Thread nD τ) (fM s) fullShare v ⊢ iprop((owns (c : Thread nD τ) (fM s) fullShare v -∗ wp frame (wpE (defs₀ (F := F)) 𝒱₀ (c : Thread nD τ) none) Set.univ (k (up (F := F) (e := .f32) v)) Q)
      -∗ wp frame (wpE (defs₀ (F := F)) 𝒱₀ (c : Thread nD τ) none) Set.univ (.op (.load (Memref.whole cc0_scratch0) (slotR s).toLoadRect hl) k) Q) :=
  step_load c _ shapeCasts_S1x512x2048_S512x2048
/-- of the integers to send; -/
theorem load_q (c : Dev nD) (s : Fin 2) {v : Vec F S512x2048 .i8} {hl : (Memref.whole cc0_scratch1).view.LoadsAt (slotR s)}
    {α : Type} {Q : α → sProp 𝕄} {k : ((slotR s).shape.Idx → Elt F .i8) → Prog (TpuEff nD τ sig (Elt F) Λ₀ .tc) α} :
    owns (c : Thread nD τ) (qM s) fullShare v ⊢ iprop((owns (c : Thread nD τ) (qM s) fullShare v -∗ wp frame (wpE (defs₀ (F := F)) 𝒱₀ (c : Thread nD τ) none) Set.univ (k (up (F := F) (e := .i8) v)) Q)
      -∗ wp frame (wpE (defs₀ (F := F)) 𝒱₀ (c : Thread nD τ) none) Set.univ (.op (.load (Memref.whole cc0_scratch1) (slotR s).toLoadRect hl) k) Q) :=
  step_load c _ shapeCasts_S1x512x2048_S512x2048
/-- a store there; -/
theorem store_q (c : Dev nD) (s : Fin 2) (v' : Vec F S512x2048 .i8) {w : Vec F (slotR s).shape .i8} (hw : dn (F := F) (e := .i8) w = v') {v : Vec F S512x2048 .i8} {hx : ((Memref.whole cc0_scratch1).access (slotR s)).Stores Finset.univ} {hm}
    {α : Type} {Q : α → sProp 𝕄} {k : PUnit → Prog (TpuEff nD τ sig (Elt F) Λ₀ .tc) α} :
    owns (c : Thread nD τ) (qM s) fullShare v ⊢ iprop((owns (c : Thread nD τ) (qM s) fullShare v' -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch1) (slotR s) w Finset.univ hx hm) k) Q) := by
  subst hw; exact step_store c _
/-- a load of the scales to send; -/
theorem load_s (c : Dev nD) (s : Fin 2) {v : Vec F S1x512 .f32} {hl : (Memref.whole cc0_scratch2).view.LoadsAt (scalR s)}
    {α : Type} {Q : α → sProp 𝕄} {k : ((scalR s).shape.Idx → Elt F .f32) → Prog (TpuEff nD τ sig (Elt F) Λ₀ .tc) α} :
    owns (c : Thread nD τ) (sM s) fullShare v ⊢ iprop((owns (c : Thread nD τ) (sM s) fullShare v -∗ wp frame (wpE (defs₀ (F := F)) 𝒱₀ (c : Thread nD τ) none) Set.univ (k (ups (F := F) (e := .f32) v)) Q)
      -∗ wp frame (wpE (defs₀ (F := F)) 𝒱₀ (c : Thread nD τ) none) Set.univ (.op (.load (Memref.whole cc0_scratch2) (scalR s).toLoadRect hl) k) Q) :=
  step_load c _ shapeCasts_S1x1x512_S1x512
/-- a store there; -/
theorem store_s (c : Dev nD) (s : Fin 2) (v' : Vec F S1x512 .f32) {w : Vec F (scalR s).shape .f32} (hw : dns (F := F) w = v') {v : Vec F S1x512 .f32} {hx : ((Memref.whole cc0_scratch2).access (scalR s)).Stores Finset.univ} {hm}
    {α : Type} {Q : α → sProp 𝕄} {k : PUnit → Prog (TpuEff nD τ sig (Elt F) Λ₀ .tc) α} :
    owns (c : Thread nD τ) (sM s) fullShare v ⊢ iprop((owns (c : Thread nD τ) (sM s) fullShare v' -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch2) (scalR s) w Finset.univ hx hm) k) Q) := by
  subst hw; exact step_store c _
/-- a load of the staged integers; -/
theorem load_qt (c : Dev nD) (s : Fin 2) {v : Vec F S512x2048 .i8} {hl : (Memref.whole cc0_scratch3).view.LoadsAt (slotR s)}
    {α : Type} {Q : α → sProp 𝕄} {k : ((slotR s).shape.Idx → Elt F .i8) → Prog (TpuEff nD τ sig (Elt F) Λ₀ .tc) α} :
    owns (c : Thread nD τ) (qtM s) fullShare v ⊢ iprop((owns (c : Thread nD τ) (qtM s) fullShare v -∗ wp frame (wpE (defs₀ (F := F)) 𝒱₀ (c : Thread nD τ) none) Set.univ (k (up (F := F) (e := .i8) v)) Q)
      -∗ wp frame (wpE (defs₀ (F := F)) 𝒱₀ (c : Thread nD τ) none) Set.univ (.op (.load (Memref.whole cc0_scratch3) (slotR s).toLoadRect hl) k) Q) :=
  step_load c _ shapeCasts_S1x512x2048_S512x2048
/-- of the staged scales; -/
theorem load_st (c : Dev nD) (s : Fin 2) {v : Vec F S1x512 .f32} {hl : (Memref.whole cc0_scratch4).view.LoadsAt (scalR s)}
    {α : Type} {Q : α → sProp 𝕄} {k : ((scalR s).shape.Idx → Elt F .f32) → Prog (TpuEff nD τ sig (Elt F) Λ₀ .tc) α} :
    owns (c : Thread nD τ) (stM s) fullShare v ⊢ iprop((owns (c : Thread nD τ) (stM s) fullShare v -∗ wp frame (wpE (defs₀ (F := F)) 𝒱₀ (c : Thread nD τ) none) Set.univ (k (ups (F := F) (e := .f32) v)) Q)
      -∗ wp frame (wpE (defs₀ (F := F)) 𝒱₀ (c : Thread nD τ) none) Set.univ (.op (.load (Memref.whole cc0_scratch4) (scalR s).toLoadRect hl) k) Q) :=
  step_load c _ shapeCasts_S1x1x512_S1x512
/-- of the restored rows; -/
theorem load_ob (c : Dev nD) (s : Fin 2) {v : Vec F S512x2048 .bf16} {hl : (Memref.whole cc0_scratch5).view.LoadsAt (slotR s)}
    {α : Type} {Q : α → sProp 𝕄} {k : ((slotR s).shape.Idx → Elt F .bf16) → Prog (TpuEff nD τ sig (Elt F) Λ₀ .tc) α} :
    owns (c : Thread nD τ) (obM s) fullShare v ⊢ iprop((owns (c : Thread nD τ) (obM s) fullShare v -∗ wp frame (wpE (defs₀ (F := F)) 𝒱₀ (c : Thread nD τ) none) Set.univ (k (up (F := F) (e := .bf16) v)) Q)
      -∗ wp frame (wpE (defs₀ (F := F)) 𝒱₀ (c : Thread nD τ) none) Set.univ (.op (.load (Memref.whole cc0_scratch5) (slotR s).toLoadRect hl) k) Q) :=
  step_load c _ shapeCasts_S1x512x2048_S512x2048
/-- and a store there. -/
theorem store_ob (c : Dev nD) (s : Fin 2) (v' : Vec F S512x2048 .bf16) {w : Vec F (slotR s).shape .bf16} (hw : dn (F := F) (e := .bf16) w = v') {v : Vec F S512x2048 .bf16} {hx : ((Memref.whole cc0_scratch5).access (slotR s)).Stores Finset.univ} {hm}
    {α : Type} {Q : α → sProp 𝕄} {k : PUnit → Prog (TpuEff nD τ sig (Elt F) Λ₀ .tc) α} :
    owns (c : Thread nD τ) (obM s) fullShare v ⊢ iprop((owns (c : Thread nD τ) (obM s) fullShare v' -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch5) (slotR s) w Finset.univ hx hm) k) Q) := by
  subst hw; exact step_store c _

end Cert.Exchange

end
-- ==== Proof.Pieces.lean ====
/-
# Arrays and their parts

A whole array owned is its chunks (or slots) owned one by one, and the other way around.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The part of array `b` under a rectangle, its leading unit axis dropped. -/
abbrev part (b : Ref sig .tc) (r : Rect b.ty.shape) (hr : ∀ a, r.stride a = 1) (s : Shape) (h : r.shape.Squeezes s) :=
  ((Memref.whole b).slice r hr).squeeze s h

/-- A squeezed slice covers the cells of its rectangle. -/
theorem part_set (b : Ref sig .tc) (r : Rect b.ty.shape) (hr : ∀ a, r.stride a = 1) (s : Shape) (h : r.shape.Squeezes s) :
    (part b r hr s h).view.set = r.set :=
  (View.set_reshape _ _).trans (View.set_slice_whole b r)

/-- Owning a part is owning its elements. -/
theorem owns_part (c : Dev nD) (b : Ref sig .tc) (r : Rect b.ty.shape) (hr : ∀ a, r.stride a = 1) (s : Shape) (h : r.shape.Squeezes s)
    (q : PosShare TreeShare) (X : s.Idx → Elt F b.ty.elt) :
    (owns (c : Thread nD τ) (part b r hr s h) q X : sProp 𝕄)
      = iprop(∃ f : Buf (Elt F) ((c : Thread nD τ).loc b), ⌜(part b r hr s h).view.read (Elt F) f = X⌝ ∗ ((c : Thread nD τ).loc b ↦[r.set]{q} f)) := by
  unfold owns
  exact congrArg (fun S : Finset b.ty.shape.Idx =>
    (iprop(∃ f : Buf (Elt F) ((c : Thread nD τ).loc b), ⌜(part b r hr s h).view.read (Elt F) f = X⌝ ∗ ((c : Thread nD τ).loc b ↦[S]{q} f)) : sProp 𝕄)) (part_set b r hr s h)

/-- Rectangles that share nothing and leave nothing out. -/
structure Tiling {n : ℕ} {t : Shape} (r : Fin n → Rect t) : Prop where
  apart : ∀ k ∈ (Finset.univ : Finset (Fin n)), ∀ k' ∈ Finset.univ, k ≠ k' → Disjoint (r k).set (r k').set
  whole : Finset.univ.biUnion (fun k => (r k).set) = Finset.univ

/-- Unit-stride boxes of one size, box `k` from `g * k` on the axis `a` on and all of every other axis. -/
theorem Tiling.of_axis {n : ℕ} {t : Shape} (r : Fin n → Rect t) (a : Fin t.rank) (g : ℕ) (hg : 0 < g) (hn : t.size a = g * n)
    (hs : ∀ k i, (r k).stride i = 1) (ha : ∀ k, (r k).off a = g * k.val) (hz : ∀ k, (r k).size a = g)
    (ho : ∀ k i, i ≠ a → (r k).off i = 0 ∧ (r k).size i = t.size i) : Tiling r where
  apart k _ k' _ hne := by
    rw [Finset.disjoint_left]
    intro i hi hi'
    obtain ⟨j, hj, e⟩ := (r k).mem_set.mp hi a
    obtain ⟨j', hj', e'⟩ := (r k').mem_set.mp hi' a
    rw [ha, hs, Nat.one_mul] at e e'
    rw [hz] at hj hj'
    apply hne
    apply Fin.ext
    have h1 : (g * k.val + j) / g = k.val := by rw [Nat.mul_add_div hg, Nat.div_eq_of_lt hj, Nat.add_zero]
    have h2 : (g * k'.val + j') / g = k'.val := by rw [Nat.mul_add_div hg, Nat.div_eq_of_lt hj', Nat.add_zero]
    rw [← h1, ← h2, ← e, ← e']
  whole := by
    ext i
    simp only [Finset.mem_biUnion, Finset.mem_univ, true_and, iff_true]
    have hi : (i a).val < g * n := hn ▸ (i a).isLt
    refine ⟨⟨(i a).val / g, Nat.div_lt_of_lt_mul hi⟩, (r _).mem_set.mpr fun x => ?_⟩
    by_cases hx : x = a
    · subst hx
      exact ⟨(i x).val % g, by rw [hz]; exact Nat.mod_lt _ hg, by rw [ha, hs, Nat.one_mul]; exact (Nat.div_add_mod _ _).symm⟩
    · obtain ⟨h1, h2⟩ := ho ⟨(i a).val / g, Nat.div_lt_of_lt_mul hi⟩ x hx
      exact ⟨(i x).val, by rw [h2]; exact (i x).isLt, by rw [h1, hs, Nat.one_mul, Nat.zero_add]⟩

variable {n : ℕ}

/-- A buffer held whole is its slots, each held with its own contents, when the slots tile it. -/
theorem scatter (c : Dev nD) (b : Ref sig .tc) (r : Fin n → Rect b.ty.shape) (hr : ∀ k a, (r k).stride a = 1) (s : Shape) (h : ∀ k, (r k).shape.Squeezes s)
    (ht : Tiling r) (q : PosShare TreeShare) (f : Buf (Elt F) ((c : Thread nD τ).loc b)) :
    ((c : Thread nD τ).loc b ↦{q} f : sProp 𝕄)
      ⊢ bigSep Finset.univ fun k : Fin n => owns (c : Thread nD τ) (part b (r k) (hr k) s (h k)) q ((part b (r k) (hr k) s (h k)).view.read (Elt F) f) := by
  have e : ((c : Thread nD τ).loc b ↦{q} f : sProp 𝕄) = bigSep Finset.univ fun k : Fin n => ((c : Thread nD τ).loc b ↦[(r k).set]{q} f) :=
    (congrArg (fun S : Finset b.ty.shape.Idx => ((c : Thread nD τ).loc b ↦[S]{q} f : sProp 𝕄)) ht.whole.symm).trans
      (pointsTo_biUnion (ℓ := (c : Thread nD τ).loc b) (q := q) (f := f) (Finset.univ : Finset (Fin n)) (fun k => (r k).set) ht.apart)
  rw [e]
  refine bigSep_mono fun k _ => ?_
  rw [owns_part]
  show ((c : Thread nD τ).loc b ↦[(r k).set]{q} f : sProp 𝕄) ⊢ _
  iintro H
  iexists f
  isplitr; · ipureintro; rfl
  iexact H

/-- Slots that tile a buffer, each held with its contents, are the buffer held whole with contents that read as theirs. -/
theorem gather (c : Dev nD) (b : Ref sig .tc) (r : Fin n → Rect b.ty.shape) (hr : ∀ k a, (r k).stride a = 1) (s : Shape) (h : ∀ k, (r k).shape.Squeezes s)
    (ht : Tiling r) (f₀ : Buf (Elt F) ((c : Thread nD τ).loc b)) (q : PosShare TreeShare) (X : Fin n → s.Idx → Elt F b.ty.elt) :
    (bigSep Finset.univ fun k : Fin n => owns (c : Thread nD τ) (part b (r k) (hr k) s (h k)) q (X k))
      ⊢ (iprop(∃ g : Buf (Elt F) ((c : Thread nD τ).loc b), ⌜∀ k, (part b (r k) (hr k) s (h k)).view.read (Elt F) g = X k⌝ ∗ ((c : Thread nD τ).loc b ↦{q} g)) : sProp 𝕄) := by
  simp only [owns_part]
  refine (BI.bigSep_exists_pi Finset.univ (fun (k : Fin n) (f : Buf (Elt F) ((c : Thread nD τ).loc b)) =>
    (iprop(⌜(part b (r k) (hr k) s (h k)).view.read (Elt F) f = X k⌝ ∗ ((c : Thread nD τ).loc b ↦[(r k).set]{q} f)) : sProp 𝕄))).trans
    (exists_elim fun fs => ?_)
  refine (bigSep_pure_sep Finset.univ _ _).trans ?_
  iintro ⟨%hfs, H⟩
  ihave H := (pointsTo_biUnion_join (ℓ := (c : Thread nD τ).loc b) (q := q) (Finset.univ : Finset (Fin n)) (fun k => (r k).set) fs f₀ ht.apart) $$ H
  icases H with ⟨%g, %hg, H⟩
  iexists g
  isplitr
  · ipureintro
    intro k
    rw [← hfs k (Finset.mem_univ k)]
    exact View.read_congr fun i hi => hg k (Finset.mem_univ k) i (part_set b (r k) (hr k) s (h k) ▸ hi)
  · ihave H := (Entails.of_eq (congrArg (fun S : Finset b.ty.shape.Idx => ((c : Thread nD τ).loc b ↦[S]{q} g : sProp 𝕄)) ht.whole)) $$ H
    iexact H

end Cert.Exchange

end
-- ==== Proof.State.lean ====
/-
# What a device holds before and after its run
-/
module

public import proofs.«01_k».proof.Proof.Steps
public import proofs.«01_k».proof.Proof.Pieces

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (σ : Equiv.Perm (Fin 4)) (K : Dev nD × Cix → ℕ)

/-! ## The state a device starts from, and the one it ends in -/

/-- Eight chunks, written out in the order of slots and turns. -/
theorem bigSep_fin8 (Φ : Fin 8 → sProp 𝕄) :
    bigSep Finset.univ Φ = iprop(Φ (ck 0 0) ∗ Φ (ck 1 0) ∗ Φ (ck 0 1) ∗ Φ (ck 1 1) ∗ Φ (ck 0 2) ∗ Φ (ck 1 2) ∗ Φ (ck 0 3) ∗ Φ (ck 1 3)) := by
  rw [bigSep_univ_eq_bigSepL [0, 1, 2, 3, 4, 5, 6, 7] (by decide) (by decide)]; rfl
/-- Two slots, written out. -/
theorem bigSep_fin2 (Φ : Fin 2 → sProp 𝕄) : bigSep Finset.univ Φ = iprop(Φ 0 ∗ Φ 1) := by
  rw [bigSep_univ_eq_bigSepL [0, 1] (by decide) (by decide)]; rfl

/-- The scratch slots, holding anything. -/
def slots (c : Dev nD) : sProp 𝕄 := bigSep Finset.univ fun s : Fin 2 =>
  iprop((∃ v, owns (c : Thread nD τ) (fM s) fullShare v) ∗ (∃ v, owns (c : Thread nD τ) (qM s) fullShare v) ∗ (∃ v, owns (c : Thread nD τ) (sM s) fullShare v)
    ∗ (∃ v, owns (c : Thread nD τ) (qtM s) fullShare v) ∗ (∃ v, owns (c : Thread nD τ) (stM s) fullShare v) ∗ ∃ v, owns (c : Thread nD τ) (obM s) fullShare v)
/-- The cells the device pays itself, slot by slot. -/
def locals (P : Cix → sProp 𝕄) : sProp 𝕄 := bigSep Finset.univ fun s : Fin 2 =>
  iprop(P (.load s) ∗ P (.qs s) ∗ P (.ss s) ∗ P (.st s) ∗ P (.sst s) ∗ P (.out s))
/-- Its channels, each with `n` rounds done. -/
def chans (c : Dev nD) (n : ℕ) : sProp 𝕄 := locals fun i => chan c i n
/-- The cells others pay, before and after their one round. -/
def heard (P : Cix → sProp 𝕄) : sProp 𝕄 :=
  iprop(P .bar ∗ P .ack ∗ (bigSep Finset.univ fun k : Fin 8 => P (.qr k)) ∗ bigSep Finset.univ fun k : Fin 8 => P (.sr k))
/-- The rights to make the payments this device owes. -/
def dues (c : Dev nD) : sProp 𝕄 :=
  iprop(dutyTok ER (cell (prv σ c) .bar) 0 () ∗ dutyTok ER (cell (prv σ c) .ack) 0 ()
    ∗ (bigSep Finset.univ fun k : Fin 8 => dutyTok ER (cell (nxt σ c) (.qr k)) 0 ()) ∗ bigSep Finset.univ fun k : Fin 8 => dutyTok ER (cell (nxt σ c) (.sr k)) 0 ())
/-- The chunks of the device's array, and of its result. -/
def xs (c : Dev nD) : sProp 𝕄 := bigSep Finset.univ fun k : Fin 8 => owns (c : Thread nD τ) (xM k) fullShare.right (xch m c k)
/-- Every chunk of the result, as it is at the end. -/
def os (c : Dev nD) : sProp 𝕄 := bigSep Finset.univ fun k : Fin 8 => owns (c : Thread nD τ) (oM k) fullShare (och m σ c k)

/-- What a device holds as its body begins; -/
def before (c : Dev nD) : sProp 𝕄 :=
  iprop(xs m c ∗ (bigSep Finset.univ fun k : Fin 8 => iprop(∃ v, owns (c : Thread nD τ) (oM k) fullShare v)) ∗ slots c ∗ chans c 0
    ∗ heard (fun i => busy c i 0) ∗ dues σ c ∗ pay m σ (prv σ c) .bar 0)
/-- and as it ends. -/
def afterwards (c : Dev nD) : sProp 𝕄 :=
  iprop(xs m c ∗ os m σ c ∗ slots c ∗ chans c 4 ∗ heard (fun i => chan c i 1))

/-- All the cells of a device are those others pay and those it pays itself. -/
theorem cells_split (P : Cix → sProp 𝕄) : bigSep Finset.univ P = iprop(heard P ∗ locals P) := by
  rw [bigSep_univ_eq_bigSepL [.bar, .ack, .qr (ck 0 0), .qr (ck 1 0), .qr (ck 0 1), .qr (ck 1 1), .qr (ck 0 2), .qr (ck 1 2), .qr (ck 0 3), .qr (ck 1 3), .sr (ck 0 0), .sr (ck 1 0), .sr (ck 0 1), .sr (ck 1 1), .sr (ck 0 2), .sr (ck 1 2), .sr (ck 0 3), .sr (ck 1 3), .load 0, .qs 0, .ss 0, .st 0, .sst 0, .out 0, .load 1, .qs 1, .ss 1, .st 1, .sst 1, .out 1] (by decide) (by decide)]
  have h1 : iprop(P (.bar) ∗ P (.ack) ∗ P (.qr (ck 0 0)) ∗ P (.qr (ck 1 0)) ∗ P (.qr (ck 0 1)) ∗ P (.qr (ck 1 1)) ∗ P (.qr (ck 0 2)) ∗ P (.qr (ck 1 2)) ∗ P (.qr (ck 0 3)) ∗ P (.qr (ck 1 3)) ∗ P (.sr (ck 0 0)) ∗ P (.sr (ck 1 0)) ∗ P (.sr (ck 0 1)) ∗ P (.sr (ck 1 1)) ∗ P (.sr (ck 0 2)) ∗ P (.sr (ck 1 2)) ∗ P (.sr (ck 0 3)) ∗ P (.sr (ck 1 3)) ∗ P (.load 0) ∗ P (.qs 0) ∗ P (.ss 0) ∗ P (.st 0) ∗ P (.sst 0) ∗ P (.out 0) ∗ P (.load 1) ∗ P (.qs 1) ∗ P (.ss 1) ∗ P (.st 1) ∗ P (.sst 1) ∗ P (.out 1)) ⊢ iprop(heard P ∗ locals P) := by
    unfold heard locals; simp only [bigSep_fin8, bigSep_fin2]
    iintro ⟨H0, H1, H2, H3, H4, H5, H6, H7, H8, H9, H10, H11, H12, H13, H14, H15, H16, H17, H18, H19, H20, H21, H22, H23, H24, H25, H26, H27, H28, H29⟩; iframe
  have h2 : iprop(heard P ∗ locals P) ⊢ iprop(P (.bar) ∗ P (.ack) ∗ P (.qr (ck 0 0)) ∗ P (.qr (ck 1 0)) ∗ P (.qr (ck 0 1)) ∗ P (.qr (ck 1 1)) ∗ P (.qr (ck 0 2)) ∗ P (.qr (ck 1 2)) ∗ P (.qr (ck 0 3)) ∗ P (.qr (ck 1 3)) ∗ P (.sr (ck 0 0)) ∗ P (.sr (ck 1 0)) ∗ P (.sr (ck 0 1)) ∗ P (.sr (ck 1 1)) ∗ P (.sr (ck 0 2)) ∗ P (.sr (ck 1 2)) ∗ P (.sr (ck 0 3)) ∗ P (.sr (ck 1 3)) ∗ P (.load 0) ∗ P (.qs 0) ∗ P (.ss 0) ∗ P (.st 0) ∗ P (.sst 0) ∗ P (.out 0) ∗ P (.load 1) ∗ P (.qs 1) ∗ P (.ss 1) ∗ P (.st 1) ∗ P (.sst 1) ∗ P (.out 1)) := by
    unfold heard locals; simp only [bigSep_fin8, bigSep_fin2]
    iintro ⟨⟨H0, H1, ⟨H2, H3, H4, H5, H6, H7, H8, H9⟩, H10, H11, H12, H13, H14, H15, H16, H17⟩, ⟨H18, H19, H20, H21, H22, H23⟩, H24, H25, H26, H27, H28, H29⟩; iframe
  exact BI.Entails.antisymm h1 h2

end Cert.Exchange

end
-- ==== Proof.Setup.lean ====
/-
# Setting the run up

The arrays cut into parts, the ghost state dealt to the devices, and what they owe one another at launch.
-/
module

public import proofs.«01_k».proof.Proof.State
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (σ : Equiv.Perm (Fin 4)) (K : Dev nD × Cix → ℕ)

/-! ## The arrays cut into the parts the run works on -/

/-- The chunks tile the block; -/
theorem rows_tile : Tiling rowsR := Tiling.of_axis _ (1 : Fin 3) 512 (by decide) rfl (fun _ _ => rfl) (fun _ => rfl) (fun _ => rfl)
  (fun k i hi => by fin_cases i <;> first | exact ⟨rfl, rfl⟩ | exact absurd rfl hi)
/-- the two slots their pair; -/
theorem slot_tile : Tiling slotR := Tiling.of_axis _ (0 : Fin 3) 1 (by decide) rfl (fun _ _ => rfl) (fun _ => (Nat.one_mul _).symm) (fun _ => rfl)
  (fun k i hi => by fin_cases i <;> first | exact ⟨rfl, rfl⟩ | exact absurd rfl hi)
/-- the two slots of scales theirs; -/
theorem scal_tile : Tiling scalR := Tiling.of_axis _ (0 : Fin 3) 1 (by decide) rfl (fun _ _ => rfl) (fun _ => (Nat.one_mul _).symm) (fun _ => rfl)
  (fun k i hi => by fin_cases i <;> first | exact ⟨rfl, rfl⟩ | exact absurd rfl hi)
/-- the landing slots their eight; -/
theorem land_tile : Tiling landR := Tiling.of_axis _ (0 : Fin 3) 1 (by decide) rfl (fun _ _ => rfl) (fun _ => (Nat.one_mul _).symm) (fun _ => rfl)
  (fun k i hi => by fin_cases i <;> first | exact ⟨rfl, rfl⟩ | exact absurd rfl hi)
/-- and those of the scales theirs. -/
theorem lscal_tile : Tiling lscalR := Tiling.of_axis _ (0 : Fin 3) 1 (by decide) rfl (fun _ _ => rfl) (fun _ => (Nat.one_mul _).symm) (fun _ => rfl)
  (fun k i hi => by fin_cases i <;> first | exact ⟨rfl, rfl⟩ | exact absurd rfl hi)

/-- Cut with the contents forgotten, and put together again. -/
theorem scatter_any {n : ℕ} (c : Dev nD) (b : Ref sig .tc) (r : Fin n → Rect b.ty.shape) (hr : ∀ k a, (r k).stride a = 1) (s : Shape) (h : ∀ k, (r k).shape.Squeezes s)
    (ht : Tiling r) (f : Buf (Elt F) ((c : Thread nD τ).loc b)) :
    ((c : Thread nD τ).loc b ↦{fullShare} f : sProp 𝕄)
      ⊢ bigSep Finset.univ fun k : Fin n => iprop(∃ v, owns (c : Thread nD τ) (part b (r k) (hr k) s (h k)) fullShare v) :=
  (scatter c b r hr s h ht fullShare f).trans (bigSep_mono fun k _ => by
    show (_ : sProp 𝕄) ⊢ _
    iintro H; iexists _; iexact H)
/-- Slots that tile a buffer, held with any contents, are the buffer held with some. -/
theorem gather_any {n : ℕ} [NeZero n] (c : Dev nD) (b : Ref sig .tc) (r : Fin n → Rect b.ty.shape) (hr : ∀ k a, (r k).stride a = 1) (s : Shape) (h : ∀ k, (r k).shape.Squeezes s)
    (ht : Tiling r) (f₀ : Buf (Elt F) ((c : Thread nD τ).loc b)) :
    (bigSep Finset.univ fun k : Fin n => iprop(∃ v, owns (c : Thread nD τ) (part b (r k) (hr k) s (h k)) fullShare v))
      ⊢ (iprop(∃ g : Buf (Elt F) ((c : Thread nD τ).loc b), ((c : Thread nD τ).loc b ↦{fullShare} g)) : sProp 𝕄) := by
  refine (BI.bigSep_exists_pi Finset.univ (fun (k : Fin n) (v : s.Idx → Elt F b.ty.elt) =>
    (owns (c : Thread nD τ) (part b (r k) (hr k) s (h k)) fullShare v : sProp 𝕄))).trans (exists_elim fun X => ?_)
  refine BIBase.Entails.trans (gather c b r hr s h ht f₀ fullShare X) ?_
  iintro ⟨%g, -, H⟩
  iexists g; iexact H

/-! ## The semaphores -/

/-- The two halves of a conjunction change places. -/
theorem swap (P Q : sProp 𝕄) : iprop(P ∗ Q) ⊢ iprop(Q ∗ P) := by
  iintro ⟨H, H'⟩; isplitl [H'] <;> iassumption
/-- Nothing beside `P` is `P`. -/
theorem with_emp (P : sProp 𝕄) : iprop(P ∗ emp) = P :=
  have h1 : iprop(P ∗ emp) ⊢ P := by iintro ⟨H, -⟩; iexact H
  have h2 : P ⊢ iprop(P ∗ emp) := by
    iintro H; isplitl; · iexact H
    iempintro
  BI.Entails.antisymm h1 h2

/-- The semaphores that the kernel allocates: all but the barrier's. -/
abbrev osem (i : {i : Cix // i ≠ .bar}) : SemLoc sig := csem i.1

/-- They are the kernel's own, and each is one of its cells. -/
theorem ownSemFacts : Pipeline.OwnSemFacts cfg0.spec osem where
  isScoped := by rintro ⟨i, hi⟩; revert i; decide
  inj := fun a b h => Subtype.ext (csem_injective h)
  disj := by rintro ⟨i, hi⟩; revert i; decide

/-- The one semaphore from outside is the barrier's. -/
theorem unscopedSems0_eq (c : Dev nD) : (unscopedSems0 c : sProp 𝕄) = semVal (cell c .bar) 0 := by
  unfold unscopedSems0; rw [bigSep_eq_bigSepL_of_eq [csem .bar] (by decide) (by decide)]; rfl

/-- All a device's counters: those its kernel is handed and the barrier's. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun i : Cix => semVal (cell c i) 0 : sProp 𝕄) := by
  rw [unscopedSems0_eq, bigSep_erase (Finset.mem_univ Cix.bar),
    show (Finset.univ.erase Cix.bar) = (Finset.univ : Finset {i : Cix // i ≠ .bar}).map ⟨Subtype.val, Subtype.val_injective⟩ from by decide, bigSep_map]
  exact BI.Entails.antisymm (swap _ _) (swap _ _)

/-! ## The ghost state -/

/-- Distinct devices and names give distinct cells. -/
theorem cell_injective : Function.Injective (fun ck : Dev nD × Cix => cell ck.1 ck.2) := by
  rintro ⟨c, i⟩ ⟨c', i'⟩ h
  have h1 : c = c' := congrArg (fun g : GSem nD τ sig => g.1.1) h
  have h2 : i = i' := csem_injective (congrArg Prod.snd h)
  rw [h1, h2]
/-- Every cell of every device. -/
def allCells : Finset (GSem nD τ sig) := Finset.univ.map ⟨fun ck : Dev nD × Cix => cell ck.1 ck.2, cell_injective⟩

/-- The tokens of a cell, one for each round; -/
def cellToks (ck : Dev nD × Cix) : Finset (GSem nD τ sig × ℕ × Unit) :=
  (Finset.Ico 0 (rounds ck.2)).map ⟨fun r => (cell ck.1 ck.2, r, ()), fun _ _ h => congrArg (fun x : GSem nD τ sig × ℕ × Unit => x.2.1) h⟩
/-- those of every cell. -/
def allToks : Finset (GSem nD τ sig × ℕ × Unit) := Finset.univ.biUnion cellToks

/-- The ghost state at the start. -/
def u₀ : UU := (initOf (Pipeline.cells cfgs cellOf_inj) (Pipeline.launchToks cfgs cellOf_inj), initOf allCells allToks)

/-- What the launch deals a device: its cells' rounds, positions and payments. -/
def G (c : Dev nD) : sProp 𝕄 :=
  iprop((bigSep Finset.univ fun i : Cix => roundState ER (sched m σ) (cell c i) 0)
    ∗ (bigSep Finset.univ fun i : Cix => iprop(atPos ER (cell c i) 0 ∅ 0 ∗ reached ER (cell c i) 0)) ∗ bigSep Finset.univ fun i : Cix => toks c i 0)

/-- The initial rounds, device by device. -/
theorem fund_all : BI.own (ER (initOf allCells allToks)) ⊢ (|==> bigSep Finset.univ (G m σ) : sProp 𝕄) := by
  have hX (Φ : GSem nD τ sig → sProp 𝕄) : bigSep allCells Φ = bigSep Finset.univ fun c : Dev nD => bigSep Finset.univ fun i : Cix => Φ (cell c i) := by
    unfold allCells; rw [bigSep_map, bigSep_univ_prod]; rfl
  have hT : bigSep allToks (fun x => (dutyTok ER x.1 x.2.1 x.2.2 : sProp 𝕄)) = bigSep Finset.univ fun c : Dev nD => bigSep Finset.univ fun i : Cix => toks c i 0 := by
    unfold allToks
    rw [Idealize.SL.BI.bigSep_biUnion_eq _ _ _ (fun ck _ ck' _ hne => Finset.disjoint_left.mpr fun x hx hx' => by
      obtain ⟨r, -, rfl⟩ := Finset.mem_map.mp hx
      obtain ⟨r', -, h⟩ := Finset.mem_map.mp hx'
      exact hne (cell_injective (congrArg (fun x : GSem nD τ sig × ℕ × Unit => x.1) h).symm)), bigSep_univ_prod]
    exact bigSep_congr fun c _ => bigSep_congr fun i _ => by unfold cellToks toks; rw [bigSep_map]; rfl
  iintro HX
  imod (Rounds.fund ER (sched m σ) allCells allToks) $$ HX with ⟨Hst, Hr, Hat, Htok⟩
  imodintro
  ihave Hst' := (Entails.of_eq (hX fun g => roundState ER (sched m σ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's counters, at zero, become its cells' invariants. -/
theorem core_alloc (c : Dev nD) :
    iprop(Pipeline.ownSems0 (Ix := Unit) (Name := ℕ) (U := UU) (Lvl := ℕ) (Val := Elt F) (τ := τ) osem c ∗ unscopedSems0 c ∗ G m σ c)
      ⊢ |={Set.univ}=> iprop((bigSep Finset.univ fun i : Cix => iprop(∃ κ : ℕ, cellInv ER (sched m σ) κ (cell c i)))
          ∗ (bigSep Finset.univ fun i : Cix => iprop(atPos ER (cell c i) 0 ∅ 0 ∗ reached ER (cell c i) 0)) ∗ bigSep Finset.univ fun i : Cix => toks c i 0) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun i : Cix => semVal (cell c i) 0) ∗ bigSep Finset.univ fun i : Cix => roundState ER (sched m σ) (cell c i) 0)
      ⊢ (|={Set.univ}=> bigSep Finset.univ fun i : Cix => iprop(∃ κ : ℕ, cellInv ER (sched m σ) κ (cell c i)) : sProp 𝕄) from by
        rw [← bigSep_sep']
        exact (bigSep_mono fun i _ => (Rounds.body_intro ER (sched m σ) (cell c i)).trans inv_alloc).trans (bigSep_fupd _ _)) $$ [Hv Hst] with Hinv
  · isplitl [Hv] <;> iassumption
  imodintro
  isplitl [Hinv]; · iexact Hinv
  isplitl [Hat]; · iexact Hat
  iexact Htok

/-- What every device is told: the invariants, and that each cell has reached its first round. -/
def told (K : Dev nD × Cix → ℕ) : sProp 𝕄 :=
  iprop((bigSep Finset.univ fun ck : Dev nD × Cix => cellInv ER (sched m σ) (K ck) (cell ck.1 ck.2))
    ∗ bigSep Finset.univ fun ck : Dev nD × Cix => reached ER (cell ck.1 ck.2) 0)
/-- What every device is told may be used again and again. -/
instance told_persistent : BI.Persistent (told m σ K) := by unfold told; infer_instance

/-- What stays with a device: its positions, its own payments, and the payments it makes to others. -/
def mine (c : Dev nD) : sProp 𝕄 :=
  iprop((bigSep Finset.univ fun i : Cix => atPos ER (cell c i) 0 ∅ 0) ∗ locals (fun i => toks c i 0) ∗ dues σ c)
/-- What a device gets: what all are told, and what is its own. -/
def G' (c : Dev nD) : sProp 𝕄 := iprop(∃ K, told m σ K ∗ mine σ c)

/-- The tokens of a cell with one round. -/
theorem toks_one (c : Dev nD) (i : Cix) (h : rounds i = 1) : (toks c i 0 : sProp 𝕄) = dutyTok ER (cell c i) 0 () := by
  rw [toks_peel c i 0 (by omega), toks_end c i (0 + 1) (by omega)]; exact with_emp _

/-- The payments dealt to those who make them. -/
theorem toks_around : (bigSep Finset.univ fun c : Dev nD => (bigSep Finset.univ fun i : Cix => toks c i 0 : sProp 𝕄))
    ⊢ bigSep Finset.univ fun c : Dev nD => iprop(locals (fun i => toks c i 0) ∗ dues σ c) := by
  have h (c : Dev nD) : (bigSep Finset.univ fun i : Cix => toks c i 0 : sProp 𝕄)
      = iprop((dutyTok ER (cell c .bar) 0 () ∗ dutyTok ER (cell c .ack) 0 () ∗ (bigSep Finset.univ fun k : Fin 8 => dutyTok ER (cell c (.qr k)) 0 ())
        ∗ bigSep Finset.univ fun k : Fin 8 => dutyTok ER (cell c (.sr k)) 0 ()) ∗ locals fun i => toks c i 0) := by
    rw [cells_split]
    unfold heard
    dsimp only
    rw [toks_one c .bar rfl, toks_one c .ack rfl, bigSep_congr (s := Finset.univ) (fun (k : Fin 8) _ => toks_one c (.qr k) rfl),
      bigSep_congr (s := Finset.univ) (fun (k : Fin 8) _ => toks_one c (.sr k) rfl)]
  rw [bigSep_congr fun c _ => h c]
  unfold dues
  rw [bigSep_sep', bigSep_sep', bigSep_sep', bigSep_sep', bigSep_sep', bigSep_sep', bigSep_sep', bigSep_sep',
    bigSep_univ_equiv (around σ.symm) (fun c : Dev nD => (dutyTok ER (cell c .bar) 0 () : sProp 𝕄)),
    bigSep_univ_equiv (around σ.symm) (fun c : Dev nD => (dutyTok ER (cell c .ack) 0 () : sProp 𝕄)),
    bigSep_univ_equiv (around σ) (fun c : Dev nD => (bigSep Finset.univ fun k : Fin 8 => dutyTok ER (cell c (.qr k)) 0 () : sProp 𝕄)),
    bigSep_univ_equiv (around σ) (fun c : Dev nD => (bigSep Finset.univ fun k : Fin 8 => dutyTok ER (cell c (.sr k)) 0 () : sProp 𝕄))]
  iintro ⟨⟨H1, H2, H3, H4⟩, H5⟩
  isplitl [H5]; · iexact H5
  isplitl [H1]; · iexact H1
  isplitl [H2]; · iexact H2
  isplitl [H3]; · iexact H3
  iexact H4

/-- What may be used again and again goes to every part. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the cells give, gathered by device, is sorted by who uses it: what all are told, and each device's own tokens. -/
theorem regroup :
    (bigSep Finset.univ fun c : Dev nD => iprop((bigSep Finset.univ fun i : Cix => iprop(∃ κ : ℕ, cellInv ER (sched m σ) κ (cell c i)))
          ∗ (bigSep Finset.univ fun i : Cix => iprop(atPos ER (cell c i) 0 ∅ 0 ∗ reached ER (cell c i) 0)) ∗ bigSep Finset.univ fun i : Cix => toks c i 0) : sProp 𝕄)
      ⊢ bigSep Finset.univ (G' m σ) := by
  rw [bigSep_sep', bigSep_sep', ← bigSep_univ_prod (fun ck : Dev nD × Cix => iprop(∃ κ : ℕ, cellInv ER (sched m σ) κ (cell ck.1 ck.2))),
    bigSep_congr (s := Finset.univ) (fun (c : Dev nD) _ => bigSep_sep' Finset.univ (fun i : Cix => (atPos ER (cell c i) 0 ∅ 0 : sProp 𝕄)) (fun i => reached ER (cell c i) 0)),
    bigSep_sep', ← bigSep_univ_prod (fun ck : Dev nD × Cix => (reached ER (cell ck.1 ck.2) 0 : sProp 𝕄))]
  iintro ⟨HI, ⟨Hat, #HR⟩, Htok⟩
  ihave HK := (BI.bigSep_exists_pi Finset.univ (fun (ck : Dev nD × Cix) (κ : ℕ) => (cellInv ER (sched m σ) κ (cell ck.1 ck.2) : sProp 𝕄))) $$ HI
  icases HK with ⟨%K, #HI⟩
  ihave Htk := (toks_around (F := F) σ) $$ Htok
  iapply (share_out (R := told m σ K) (Φ := mine σ) fun c _ => show iprop(told m σ K ∗ mine σ c) ⊢ G' m σ c from by
    unfold G'; iintro H; iexists K; iexact H)
  isplitr
  · unfold told; isplitl; · iexact HI
    iexact HR
  · iapply (Entails.of_eq (bigSep_sep' Finset.univ (fun c : Dev nD => (bigSep Finset.univ fun i : Cix => atPos ER (cell c i) 0 ∅ 0 : sProp 𝕄))
      (fun c => iprop(locals (fun i => toks c i 0) ∗ dues σ c))).symm)
    isplitl [Hat]; · iexact Hat
    iexact Htk

/-- From every device's counters and initial rounds, what each device gets. -/
theorem glob : (bigSep Finset.univ fun c => iprop(Pipeline.ownSems0 (Ix := Unit) (Name := ℕ) (U := UU) (Lvl := ℕ) (Val := Elt F) (τ := τ) osem c ∗ unscopedSems0 c ∗ G m σ c) : sProp 𝕄)
    ⊢ |={Set.univ}=> bigSep Finset.univ (G' m σ) :=
  ((bigSep_mono fun c _ => core_alloc m σ c).trans (bigSep_fupd _ _)).trans (BI.fupd_mono (regroup m σ))

/-! ## What the devices owe at launch -/

/-- Distinct steps go to distinct cells. -/
theorem dix_inj : ∀ l < 18, ∀ l' < 18, dix l = dix l' → l = l' := by decide

/-- The device that pays `c`'s cell `i`. -/
def payer (c : Dev nD) (i : Cix) : Dev nD := match i with
  | .bar | .ack => nxt σ c
  | _ => prv σ c
/-- A cell's payer is the one device whose step goes there. -/
theorem dto_iff (d c : Dev nD) (i : Cix) : dto σ d i = c ↔ d = payer σ c i := by
  have h1 : nxt σ d = c ↔ d = prv σ c := ⟨fun h => by rw [← h, prv_nxt], fun h => by rw [h, nxt_prv]⟩
  have h2 : prv σ d = c ↔ d = nxt σ c := ⟨fun h => by rw [← h, nxt_prv], fun h => by rw [h, prv_nxt]⟩
  cases i <;> first | exact h1 | exact h2

/-- The credit that the launch gives for a cell is its one round's amount; -/
theorem launch_amt (c : Dev nD) (l₀ : ℕ) (h : l₀ < 18) :
    tallyOn (cell c (dix l₀)) (launchCredit (Pipeline.owing fun d => owed σ d 0) 0 (cell c (dix l₀))) = (tallyAt (cell c (dix l₀)) () (amt (dix l₀)) : CellTallies nD τ sig Unit) := by
  unfold tallyAt; refine congrArg _ (Finsupp.ext fun u => ?_); cases u
  rw [Pipeline.launchCredit_owing, Finsupp.single_eq_same]
  have e (d : Dev nD) : owed σ d 0 (cell c (dix l₀)) () = if d = payer σ c (dix l₀) then amt (dix l₀) else 0 := by
    unfold owed
    rw [Finset.sum_apply, Finsupp.finset_sum_apply, Finset.sum_eq_single l₀]
    · rw [tallyAt_apply]
      refine if_congr ⟨fun hh => (dto_iff σ d c (dix l₀)).mp (congrArg (fun g : GSem nD τ sig => g.1.1) hh.1).symm, fun hh => ⟨?_, rfl⟩⟩ rfl rfl
      rw [(dto_iff σ d c (dix l₀)).mpr hh]
    · intro l hl hne
      rw [tallyAt_apply, if_neg]
      rintro ⟨hh, -⟩
      exact hne (dix_inj l (Finset.mem_Ico.mp hl).2 l₀ h (csem_injective (congrArg Prod.snd hh)).symm)
    · intro hl; exact absurd (Finset.mem_Ico.mpr ⟨Nat.zero_le _, h⟩) hl
  rw [Finset.sum_congr rfl fun d _ => e d, Finset.sum_ite_eq' Finset.univ, if_pos (Finset.mem_univ _)]

/-- so a device gets the credit for each cell that another device pays. -/
theorem credit_at (c : Dev nD) (i : Cix) (l₀ : ℕ) (h : l₀ < 18) (hi : dix l₀ = i) :
    (cred (tallyOn (cell c i) (launchCredit (Pipeline.owing fun d => owed σ d 0) 0 (cell c i))) : sProp 𝕄) = cred (tallyAt (cell c i) () (amt i)) := by
  subst hi; rw [launch_amt σ c l₀ h]

/-- A device is promised one payment on each cell others pay. -/
theorem creds (c : Dev nD) : (Pipeline.launchCred (fun d => owed σ d 0) c : sProp 𝕄) ⊢ heard fun i => cred (tallyAt (cell c i) () (amt i)) := by
  have e : (heard fun i => cred (tallyOn (cell c i) (launchCredit (Pipeline.owing fun d => owed σ d 0) 0 (cell c i))) : sProp 𝕄)
      = heard fun i => cred (tallyAt (cell c i) () (amt i)) := by
    unfold heard
    dsimp only
    rw [credit_at σ c .bar 0 (by decide) rfl, credit_at σ c .ack 17 (by decide) rfl,
      bigSep_congr (s := Finset.univ) (fun (k : Fin 8) _ => credit_at (F := F) σ c (.qr k) (1 + 2 * k.val) (by omega) (by revert k; decide)),
      bigSep_congr (s := Finset.univ) (fun (k : Fin 8) _ => credit_at (F := F) σ c (.sr k) (2 + 2 * k.val) (by omega) (by revert k; decide))]
  rw [← e]
  unfold Pipeline.launchCred
  refine (BI.bigSep_subset (Finset.subset_univ (Finset.univ.map ⟨csem, csem_injective⟩))).trans ?_
  rw [bigSep_map]
  refine BIBase.Entails.trans (Entails.of_eq (cells_split fun i => cred (tallyOn (cell c i) (launchCredit (Pipeline.owing fun d => owed σ d 0) 0 (cell c i))))) ?_
  iintro ⟨H, -⟩; iexact H

end Cert.Exchange

end
-- ==== Proof.Devices.lean ====
/-
# The devices the kernel names

The kernel reads the permutation's four entries and computes from them, by its own place in the mesh, the device it
receives from (for the two signals) and the device it sends to (for the sixteen transfers).
-/
module

public import proofs.«01_k».proof.Proof.Protocol
public import Mathlib.Data.Fintype.Perm

@[expose] public section

namespace Cert.Exchange

open Cert.KernelIdeal Cert.KernelIdeal.Gen Idealize.ShloMosaic

/-- The permutation's entry `i` as the word the kernel reads. -/
abbrev word (σ : Equiv.Perm (Fin 4)) (i : Fin 4) : BitVec 32 := BitVec.ofNat 32 (σ i).val

set_option maxRecDepth 20000

/-- The signals go to the device this one receives from. -/
theorem dev1_val : ∀ (σ : Equiv.Perm (Fin 4)) (c : Dev nD), k0_dev1 c (word σ 0) (word σ 1) (word σ 2) (word σ 3) = (prv σ c).val := by
  decide +kernel
/-- Device number 18 that the kernel computes is the one before `c`. -/
theorem dev18_val (σ : Equiv.Perm (Fin 4)) (c : Dev nD) : k0_dev18 c (word σ 0) (word σ 1) (word σ 2) (word σ 3) = (prv σ c).val :=
  dev1_val σ c
/-- The transfers go to the device the permutation names. -/
theorem dev2_val : ∀ (σ : Equiv.Perm (Fin 4)) (c : Dev nD), k0_dev2 c (word σ 0) (word σ 1) (word σ 2) (word σ 3) = (nxt σ c).val := by
  decide +kernel
/-- Device number 3 that the kernel computes is the one that `c` sends to. -/
theorem dev3_val (σ : Equiv.Perm (Fin 4)) (c : Dev nD) : k0_dev3 c (word σ 0) (word σ 1) (word σ 2) (word σ 3) = (nxt σ c).val :=
  dev2_val σ c
/-- Device number 4 that the kernel computes is the one that `c` sends to. -/
theorem dev4_val (σ : Equiv.Perm (Fin 4)) (c : Dev nD) : k0_dev4 c (word σ 0) (word σ 1) (word σ 2) (word σ 3) = (nxt σ c).val :=
  dev2_val σ c
/-- Device number 5 that the kernel computes is the one that `c` sends to. -/
theorem dev5_val (σ : Equiv.Perm (Fin 4)) (c : Dev nD) : k0_dev5 c (word σ 0) (word σ 1) (word σ 2) (word σ 3) = (nxt σ c).val :=
  dev2_val σ c
/-- Device number 6 that the kernel computes is the one that `c` sends to. -/
theorem dev6_val (σ : Equiv.Perm (Fin 4)) (c : Dev nD) : k0_dev6 c (word σ 0) (word σ 1) (word σ 2) (word σ 3) = (nxt σ c).val :=
  dev2_val σ c
/-- Device number 7 that the kernel computes is the one that `c` sends to. -/
theorem dev7_val (σ : Equiv.Perm (Fin 4)) (c : Dev nD) : k0_dev7 c (word σ 0) (word σ 1) (word σ 2) (word σ 3) = (nxt σ c).val :=
  dev2_val σ c
/-- Device number 8 that the kernel computes is the one that `c` sends to. -/
theorem dev8_val (σ : Equiv.Perm (Fin 4)) (c : Dev nD) : k0_dev8 c (word σ 0) (word σ 1) (word σ 2) (word σ 3) = (nxt σ c).val :=
  dev2_val σ c
/-- Device number 9 that the kernel computes is the one that `c` sends to. -/
theorem dev9_val (σ : Equiv.Perm (Fin 4)) (c : Dev nD) : k0_dev9 c (word σ 0) (word σ 1) (word σ 2) (word σ 3) = (nxt σ c).val :=
  dev2_val σ c
/-- Device number 10 that the kernel computes is the one that `c` sends to. -/
theorem dev10_val (σ : Equiv.Perm (Fin 4)) (c : Dev nD) : k0_dev10 c (word σ 0) (word σ 1) (word σ 2) (word σ 3) = (nxt σ c).val :=
  dev2_val σ c
/-- Device number 11 that the kernel computes is the one that `c` sends to. -/
theorem dev11_val (σ : Equiv.Perm (Fin 4)) (c : Dev nD) : k0_dev11 c (word σ 0) (word σ 1) (word σ 2) (word σ 3) = (nxt σ c).val :=
  dev2_val σ c
/-- Device number 12 that the kernel computes is the one that `c` sends to. -/
theorem dev12_val (σ : Equiv.Perm (Fin 4)) (c : Dev nD) : k0_dev12 c (word σ 0) (word σ 1) (word σ 2) (word σ 3) = (nxt σ c).val :=
  dev2_val σ c
/-- Device number 13 that the kernel computes is the one that `c` sends to. -/
theorem dev13_val (σ : Equiv.Perm (Fin 4)) (c : Dev nD) : k0_dev13 c (word σ 0) (word σ 1) (word σ 2) (word σ 3) = (nxt σ c).val :=
  dev2_val σ c
/-- Device number 14 that the kernel computes is the one that `c` sends to. -/
theorem dev14_val (σ : Equiv.Perm (Fin 4)) (c : Dev nD) : k0_dev14 c (word σ 0) (word σ 1) (word σ 2) (word σ 3) = (nxt σ c).val :=
  dev2_val σ c
/-- Device number 15 that the kernel computes is the one that `c` sends to. -/
theorem dev15_val (σ : Equiv.Perm (Fin 4)) (c : Dev nD) : k0_dev15 c (word σ 0) (word σ 1) (word σ 2) (word σ 3) = (nxt σ c).val :=
  dev2_val σ c
/-- Device number 16 that the kernel computes is the one that `c` sends to. -/
theorem dev16_val (σ : Equiv.Perm (Fin 4)) (c : Dev nD) : k0_dev16 c (word σ 0) (word σ 1) (word σ 2) (word σ 3) = (nxt σ c).val :=
  dev2_val σ c
/-- Device number 17 that the kernel computes is the one that `c` sends to. -/
theorem dev17_val (σ : Equiv.Perm (Fin 4)) (c : Dev nD) : k0_dev17 c (word σ 0) (word σ 1) (word σ 2) (word σ 3) = (nxt σ c).val :=
  dev2_val σ c

/-- All of them are devices of the mesh. -/
theorem chk (σ : Equiv.Perm (Fin 4)) (c : Dev nD) : k0_chk1 c (word σ 0) (word σ 1) (word σ 2) (word σ 3) :=
  ⟨by rw [dev1_val]; exact Fin.isLt _,
   by rw [dev2_val]; exact Fin.isLt _,
   by rw [dev3_val]; exact Fin.isLt _,
   by rw [dev4_val]; exact Fin.isLt _,
   by rw [dev5_val]; exact Fin.isLt _,
   by rw [dev6_val]; exact Fin.isLt _,
   by rw [dev7_val]; exact Fin.isLt _,
   by rw [dev8_val]; exact Fin.isLt _,
   by rw [dev9_val]; exact Fin.isLt _,
   by rw [dev10_val]; exact Fin.isLt _,
   by rw [dev11_val]; exact Fin.isLt _,
   by rw [dev12_val]; exact Fin.isLt _,
   by rw [dev13_val]; exact Fin.isLt _,
   by rw [dev14_val]; exact Fin.isLt _,
   by rw [dev15_val]; exact Fin.isLt _,
   by rw [dev16_val]; exact Fin.isLt _,
   by rw [dev17_val]; exact Fin.isLt _,
   by rw [dev18_val]; exact Fin.isLt _⟩

end Cert.Exchange
-- ==== Proof.Body.lean ====
/-
# One device's run

The kernel's body on one device, effect by effect: from its array's chunks, its scratch slots, its channels idle and
its payments still to make, to the eight chunks of its result written and everything paid.
-/
module

public import proofs.«01_k».proof.Proof.State
public import proofs.«01_k».proof.Proof.Devices
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (σ : Equiv.Perm (Fin 4)) (K : Dev nD × Cix → ℕ)

/-! ## The chunks' arithmetic is the same at every place -/

/-- The integers that this store writes are the chunk's. -/
theorem pay5_eq (x : Vec F S512x2048 .f32) : dn (F := F) (e := .i8) (k0_pay5 (k0_pay1 (up (F := F) (e := .f32) x)) (k0_pay2 (up (F := F) (e := .f32) x)) (k0_pay3 (F := F))) = quant x := rfl
/-- The scales that this store writes are the chunk's. -/
theorem pay6_eq (x : Vec F S512x2048 .f32) : dns (F := F) (k0_pay6 (k0_pay2 (up (F := F) (e := .f32) x)) (k0_pay3 (F := F))) = scal x := rfl
/-- The integers that this store writes are the chunk's. -/
theorem pay10_eq (x : Vec F S512x2048 .f32) : dn (F := F) (e := .i8) (k0_pay10 (k0_pay7 (up (F := F) (e := .f32) x)) (k0_pay8 (up (F := F) (e := .f32) x))) = quant x := rfl
/-- The scales that this store writes are the chunk's. -/
theorem pay11_eq (x : Vec F S512x2048 .f32) : dns (F := F) (k0_pay11 (k0_pay8 (up (F := F) (e := .f32) x))) = scal x := rfl
/-- The integers that this store writes are the chunk's. -/
theorem pay14_eq (x : Vec F S512x2048 .f32) : dn (F := F) (e := .i8) (k0_pay14 (up (F := F) (e := .f32) x)) = quant x := rfl
/-- The scales that this store writes are the chunk's. -/
theorem pay16_eq (x : Vec F S512x2048 .f32) : dns (F := F) (k0_pay16 (k0_pay15 (up (F := F) (e := .f32) x))) = scal x := rfl
/-- The integers that this store writes are the chunk's. -/
theorem pay22_eq (x : Vec F S512x2048 .f32) : dn (F := F) (e := .i8) (k0_pay22 (up (F := F) (e := .f32) x)) = quant x := rfl
/-- The scales that this store writes are the chunk's. -/
theorem pay24_eq (x : Vec F S512x2048 .f32) : dns (F := F) (k0_pay24 (k0_pay23 (up (F := F) (e := .f32) x))) = scal x := rfl
/-- The integers that this store writes are the chunk's. -/
theorem pay30_eq (x : Vec F S512x2048 .f32) : dn (F := F) (e := .i8) (k0_pay30 (up (F := F) (e := .f32) x)) = quant x := rfl
/-- The scales that this store writes are the chunk's. -/
theorem pay32_eq (x : Vec F S512x2048 .f32) : dns (F := F) (k0_pay32 (k0_pay31 (up (F := F) (e := .f32) x))) = scal x := rfl
/-- The integers that this store writes are the chunk's. -/
theorem pay38_eq (x : Vec F S512x2048 .f32) : dn (F := F) (e := .i8) (k0_pay38 (k0_pay37 (up (F := F) (e := .f32) x))) = quant x := rfl
/-- The scales that this store writes are the chunk's. -/
theorem pay39_eq (x : Vec F S512x2048 .f32) : dns (F := F) (k0_pay39 (k0_pay36 (up (F := F) (e := .f32) x))) = scal x := rfl
/-- The integers that this store writes are the chunk's. -/
theorem pay45_eq (x : Vec F S512x2048 .f32) : dn (F := F) (e := .i8) (k0_pay45 (k0_pay41 (up (F := F) (e := .f32) x)) (k0_pay42 (up (F := F) (e := .f32) x)) (k0_pay43 (F := F))) = quant x := rfl
/-- The scales that this store writes are the chunk's. -/
theorem pay46_eq (x : Vec F S512x2048 .f32) : dns (F := F) (k0_pay46 (k0_pay42 (up (F := F) (e := .f32) x)) (k0_pay43 (F := F))) = scal x := rfl
/-- The integers that this store writes are the chunk's. -/
theorem pay50_eq (x : Vec F S512x2048 .f32) : dn (F := F) (e := .i8) (k0_pay50 (k0_pay48 (up (F := F) (e := .f32) x)) (k0_pay49 (up (F := F) (e := .f32) x))) = quant x := rfl
/-- The scales that this store writes are the chunk's. -/
theorem pay51_eq (x : Vec F S512x2048 .f32) : dns (F := F) (k0_pay51 (k0_pay49 (up (F := F) (e := .f32) x))) = scal x := rfl
/-- The rows that this store writes are the chunk's, restored. -/
theorem pay19_eq (q : Vec F S512x2048 .i8) (s : Vec F S1x512 .f32) : dn (F := F) (e := .bf16) (k0_pay19 (k0_pay17 (up (F := F) (e := .i8) q)) (k0_pay18 (ups (F := F) s))) = deq q s := rfl
/-- The rows that this store writes are the chunk's, restored. -/
theorem pay27_eq (q : Vec F S512x2048 .i8) (s : Vec F S1x512 .f32) : dn (F := F) (e := .bf16) (k0_pay27 (k0_pay25 (up (F := F) (e := .i8) q)) (k0_pay26 (ups (F := F) s))) = deq q s := rfl
/-- The rows that this store writes are the chunk's, restored. -/
theorem pay34_eq (q : Vec F S512x2048 .i8) (s : Vec F S1x512 .f32) : dn (F := F) (e := .bf16) (k0_pay34 (k0_pay33 (ups (F := F) s) (up (F := F) (e := .i8) q))) = deq q s := rfl
/-- The rows that this store writes are the chunk's, restored. -/
theorem pay40_eq (q : Vec F S512x2048 .i8) (s : Vec F S1x512 .f32) : dn (F := F) (e := .bf16) (k0_pay40 (ups (F := F) s) (up (F := F) (e := .i8) q)) = deq q s := rfl
/-- The rows that this store writes are the chunk's, restored. -/
theorem pay47_eq (q : Vec F S512x2048 .i8) (s : Vec F S1x512 .f32) : dn (F := F) (e := .bf16) (k0_pay47 (ups (F := F) s) (up (F := F) (e := .i8) q)) = deq q s := rfl
/-- The rows that this store writes are the chunk's, restored. -/
theorem pay52_eq (q : Vec F S512x2048 .i8) (s : Vec F S1x512 .f32) : dn (F := F) (e := .bf16) (k0_pay52 (ups (F := F) s) (up (F := F) (e := .i8) q)) = deq q s := rfl
/-- The rows that this store writes are the chunk's, restored. -/
theorem pay55_eq (q : Vec F S512x2048 .i8) (s : Vec F S1x512 .f32) : dn (F := F) (e := .bf16) (k0_pay55 (k0_pay53 (ups (F := F) s)) (k0_pay54 (up (F := F) (e := .i8) q)) (Scalar.ofBits .f32 0x3C010204#32)) = deq q s := rfl
/-- The rows that this store writes are the chunk's, restored. -/
theorem pay57_eq (q : Vec F S512x2048 .i8) (s : Vec F S1x512 .f32) : dn (F := F) (e := .bf16) (k0_pay57 (k0_pay56 (ups (F := F) s) (up (F := F) (e := .i8) q))) = deq q s := rfl

/-! ## The permutation's entries -/

/-- Reading word `i` of the table gives the word of the permutation. -/
theorem step_word (c : Dev nD) (i : Fin 4) {X : Buf (Elt F) ((c : Thread nD τ).loc cc0_stg0_0)} (hX : X = fun j => word σ (j 0))
    {r : Rect S4} {hl} (h0 : ∀ j, (r.emb j) 0 = i)
    {α : Type} {Q : α → sProp 𝕄} {k : (r.shape.Idx → Elt F .i32) → Prog (TpuEff nD τ sig (Elt F) Λ₀ .tc) α} :
    ((c : Thread nD τ).loc cc0_stg0_0 ↦{fullShare} X) ⊢ iprop((((c : Thread nD τ).loc cc0_stg0_0 ↦{fullShare} X) -∗ wp frame (wpE (defs₀ (F := F)) 𝒱₀ (c : Thread nD τ) none) Set.univ (k fun _ => word σ i) Q)
      -∗ wp frame (wpE (defs₀ (F := F)) 𝒱₀ (c : Thread nD τ) none) Set.univ (.op (.load (Memref.whole cc0_stg0_0) r.toLoadRect hl) k) Q) := by
  iintro H Hk
  iapply (wp_load_rect 𝒱₀ (c : Thread nD τ) none Set.univ (m := Memref.whole cc0_stg0_0) (r := r) (S := Finset.univ) (Finset.subset_univ _)) $$ H
  iintro H
  rw [show ((Memref.whole cc0_stg0_0).access r).read (Elt F) X = fun _ => word σ i from by
    subst hX; exact funext fun j => congrArg (word σ) (h0 j)]
  iapply Hk; iexact H

/-! ## The run -/

/-- The four reads of the table are of its words 0, -/
theorem at_0 (h) (j : (Rect.unit (s := S4) ![0] S1.size h).shape.Idx) : (Rect.unit (s := S4) ![0] S1.size h).emb j 0 = (0 : Fin 4) := by
  have h1 : (j 0).val < 1 := (j 0).isLt; exact Fin.ext (show 0 + 1 * (j 0).val = 0 by omega)
/-- 1, -/
theorem at_1 (h) (j : (Rect.unit (s := S4) ![1] S1.size h).shape.Idx) : (Rect.unit (s := S4) ![1] S1.size h).emb j 0 = (1 : Fin 4) := by
  have h1 : (j 0).val < 1 := (j 0).isLt; exact Fin.ext (show 1 + 1 * (j 0).val = 1 by omega)
/-- 2 -/
theorem at_2 (h) (j : (Rect.unit (s := S4) ![2] S1.size h).shape.Idx) : (Rect.unit (s := S4) ![2] S1.size h).emb j 0 = (2 : Fin 4) := by
  have h1 : (j 0).val < 1 := (j 0).isLt; exact Fin.ext (show 2 + 1 * (j 0).val = 2 by omega)
/-- and 3. -/
theorem at_3 (h) (j : (Rect.unit (s := S4) ![3] S1.size h).shape.Idx) : (Rect.unit (s := S4) ![3] S1.size h).emb j 0 = (3 : Fin 4) := by
  have h1 : (j 0).val < 1 := (j 0).isLt; exact Fin.ext (show 3 + 1 * (j 0).val = 3 by omega)

/-- What is left to run after a part. -/
def rest {α : Type} (Q : α → sProp 𝕄) : α → sProp 𝕄 := Q
/-- A program run before another one. -/
theorem wp_then {c : Dev nD} {α β : Type} (p : Prog (TpuEff nD τ sig (Elt F) Λ₀ .tc) α) (k : α → Prog (TpuEff nD τ sig (Elt F) Λ₀ .tc) β) (Q : β → sProp 𝕄) :
    wp frame (wpE (defs₀ (F := F)) 𝒱₀ (c : Thread nD τ) none) Set.univ (p >>= k) Q
      = wp frame (wpE (defs₀ (F := F)) 𝒱₀ (c : Thread nD τ) none) Set.univ p (rest fun a => wp frame (wpE (defs₀ (F := F)) 𝒱₀ (c : Thread nD τ) none) Set.univ (k a) Q) := by
  rw [wp_bind]; rfl

set_option maxHeartbeats 4000000 in
/-- The whole body: from what the device holds at the start and all that it owes, it ends with its result, its slots and nothing owed. -/
theorem run_body (c : Dev nD) (X : Buf (Elt F) ((c : Thread nD τ).loc cc0_stg0_0)) (hX : X = fun j => word σ (j 0)) (Q : PUnit → sProp 𝕄) :
    records m σ K ⊢ iprop(before m σ c -∗ owing σ c 0 -∗ ((c : Thread nD τ).loc cc0_stg0_0 ↦{fullShare} X)
      -∗ ((afterwards m σ c ∗ owing σ c 18 ∗ ((c : Thread nD τ).loc cc0_stg0_0 ↦{fullShare} X)) -∗ |={Set.univ}=> Q ⟨⟩)
      -∗ wp frame (wpE (defs₀ (F := F)) 𝒱₀ (c : Thread nD τ) none) Set.univ
        (cc0_body (Memref.whole cc0_stg0_0) (Memref.isWhole_whole _) (Memref.whole main_arg0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14) Q) := by
  unfold before afterwards chans xs os slots locals heard dues
  simp only [bigSep_fin8, bigSep_fin2]
  iintro #HR ⟨⟨Hx0, Hx1, Hx2, Hx3, Hx4, Hx5, Hx6, Hx7⟩, ⟨⟨%w, Ho0⟩, ⟨%w, Ho1⟩, ⟨%w, Ho2⟩, ⟨%w, Ho3⟩, ⟨%w, Ho4⟩, ⟨%w, Ho5⟩, ⟨%w, Ho6⟩, ⟨%w, Ho7⟩⟩, ⟨⟨⟨%w, Hf0⟩, ⟨%w, Hq0⟩, ⟨%w, Hs0⟩, ⟨%w, Hqt0⟩, ⟨%w, Hst0⟩, ⟨%w, Hob0⟩⟩, ⟨⟨%w, Hf1⟩, ⟨%w, Hq1⟩, ⟨%w, Hs1⟩, ⟨%w, Hqt1⟩, ⟨%w, Hst1⟩, ⟨%w, Hob1⟩⟩⟩, ⟨⟨C_load0, C_qs0, C_ss0, C_st0, C_sst0, C_out0⟩, ⟨C_load1, C_qs1, C_ss1, C_st1, C_sst1, C_out1⟩⟩, ⟨Cbar, Cack, ⟨C_qr0, C_qr1, C_qr2, C_qr3, C_qr4, C_qr5, C_qr6, C_qr7⟩, ⟨C_sr0, C_sr1, C_sr2, C_sr3, C_sr4, C_sr5, C_sr6, C_sr7⟩⟩, ⟨Tbar, Tack, ⟨Tq0, Tq1, Tq2, Tq3, Tq4, Tq5, Tq6, Tq7⟩, ⟨Ts0, Ts1, Ts2, Ts3, Ts4, Ts5, Ts6, Ts7⟩⟩, Hland⟩ HO Hw Hk

  rw [cc0_body_eq_skeleton]; unfold cc0_body_skel
  -- part 1
  rw [wp_then]; generalize hQ1 : rest _ = Q1; rw [k0_part1_eq_skeleton]; unfold k0_part1_skel
  simp only [Prog.lift, Prog.bind_op, Prog.bind_ret, Prog.pure_eq_ret, semSignalWord, semWaitWord, smemLoad, smemLoadElt]
  rw [wp_deviceId]
  iapply (step_word σ c 0 hX (at_0 _)) $$ Hw; iintro Hw
  iapply (step_word σ c 1 hX (at_1 _)) $$ Hw; iintro Hw
  iapply (step_word σ c 2 hX (at_2 _)) $$ Hw; iintro Hw
  iapply (step_word σ c 3 hX (at_3 _)) $$ Hw; iintro Hw
  dsimp only
  rw [wp_assume_of 𝒱₀ (c : Thread nD τ) none Set.univ (chk σ c), wp_ret]; imodintro; subst hQ1; unfold rest; dsimp only
  -- part 2
  rw [wp_then]; generalize hQ2 : rest _ = Q2; rw [k0_part2_eq_skeleton]; unfold k0_part2_skel
  simp only [Prog.lift, Prog.bind_op, Prog.bind_ret, Prog.pure_eq_ret, semSignalWord, semWaitWord, smemLoad, smemLoadElt]
  iapply (signal_bar m σ K c _ (Fin.ext (dev1_val σ c)) rfl) $$ HR Tbar Hland HO; iintro HO
  iapply (wait_bar m σ K c rfl) $$ HR Cbar HO; rw [bigSep_fin8, bigSep_fin8]; iintro ⟨⟨⟨Hqn0, Hqn1, Hqn2, Hqn3, Hqn4, Hqn5, Hqn6, Hqn7⟩, ⟨Hsn0, Hsn1, Hsn2, Hsn3, Hsn4, Hsn5, Hsn6, Hsn7⟩⟩, Cbar, HO⟩
  iapply (copy_load m σ K c 0 0 (by decide) rfl) $$ HR Hx0 Hf0 C_load0; iintro C_load0
  iapply (wait_load m σ K c 0 0 (by decide) 1 rfl) $$ HR C_load0 HO; iintro ⟨⟨Hf0, Hx0⟩, C_load0, HO⟩
  iapply (copy_load m σ K c 1 0 (by decide) rfl) $$ HR Hx1 Hf1 C_load1; iintro C_load1
  iapply (load_f c 0) $$ Hf0; iintro Hf0
  rw [wp_ret]; imodintro; subst hQ2; unfold rest; dsimp only
  -- part 3
  rw [wp_then]; generalize hQ3 : rest _ = Q3; rw [k0_part3_eq_skeleton]; unfold k0_part3_skel
  simp only [Prog.lift, Prog.bind_op, Prog.bind_ret, Prog.pure_eq_ret, semSignalWord, semWaitWord, smemLoad, smemLoadElt]
  iapply (load_q c 0) $$ Hq0; iintro Hq0
  iapply (store_q c 0 (qch m c (ck 0 0)) (pay5_eq _)) $$ Hq0; iintro Hq0
  iapply (load_s c 0) $$ Hs0; iintro Hs0
  iapply (store_s c 0 (sch m c (ck 0 0)) (pay6_eq _)) $$ Hs0; iintro Hs0
  icases Hqn0 with ⟨%w, Hqn0⟩; iapply (send_q m σ K c _ (Fin.ext (dev2_val σ c)) 0 0 (by decide) 1 (by decide) rfl rfl rfl) $$ HR Hq0 Hqn0 C_qs0 Tq0 HO; iintro ⟨C_qs0, HO⟩
  rw [wp_ret]; imodintro; subst hQ3; unfold rest; dsimp only
  -- part 4
  rw [wp_then]; generalize hQ4 : rest _ = Q4; rw [k0_part4_eq_skeleton]; unfold k0_part4_skel
  simp only [Prog.lift, Prog.bind_op, Prog.bind_ret, Prog.pure_eq_ret, semSignalWord, semWaitWord, smemLoad, smemLoadElt]
  icases Hsn0 with ⟨%w, Hsn0⟩; iapply (send_s m σ K c _ (Fin.ext (dev3_val σ c)) 0 0 (by decide) 2 (by decide) rfl rfl rfl) $$ HR Hs0 Hsn0 C_ss0 Ts0 HO; iintro ⟨C_ss0, HO⟩
  iapply (wait_load m σ K c 1 0 (by decide) 3 rfl) $$ HR C_load1 HO; iintro ⟨⟨Hf1, Hx1⟩, C_load1, HO⟩
  iapply (copy_load m σ K c 0 1 (by decide) rfl) $$ HR Hx2 Hf0 C_load0; iintro C_load0
  iapply (load_f c 1) $$ Hf1; iintro Hf1
  rw [wp_ret]; imodintro; subst hQ4; unfold rest; dsimp only
  -- part 5
  rw [wp_then]; generalize hQ5 : rest _ = Q5; rw [k0_part5_eq_skeleton]; unfold k0_part5_skel
  simp only [Prog.lift, Prog.bind_op, Prog.bind_ret, Prog.pure_eq_ret, semSignalWord, semWaitWord, smemLoad, smemLoadElt]
  iapply (load_q c 1) $$ Hq1; iintro Hq1
  iapply (store_q c 1 (qch m c (ck 1 0)) (pay10_eq _)) $$ Hq1; iintro Hq1
  iapply (load_s c 1) $$ Hs1; iintro Hs1
  iapply (store_s c 1 (sch m c (ck 1 0)) (pay11_eq _)) $$ Hs1; iintro Hs1
  icases Hqn1 with ⟨%w, Hqn1⟩; iapply (send_q m σ K c _ (Fin.ext (dev4_val σ c)) 1 0 (by decide) 3 (by decide) rfl rfl rfl) $$ HR Hq1 Hqn1 C_qs1 Tq1 HO; iintro ⟨C_qs1, HO⟩
  rw [wp_ret]; imodintro; subst hQ5; unfold rest; dsimp only
  -- part 6
  rw [wp_then]; generalize hQ6 : rest _ = Q6; rw [k0_part6_eq_skeleton]; unfold k0_part6_skel
  simp only [Prog.lift, Prog.bind_op, Prog.bind_ret, Prog.pure_eq_ret, semSignalWord, semWaitWord, smemLoad, smemLoadElt]
  icases Hsn1 with ⟨%w, Hsn1⟩; iapply (send_s m σ K c _ (Fin.ext (dev5_val σ c)) 1 0 (by decide) 4 (by decide) rfl rfl rfl) $$ HR Hs1 Hsn1 C_ss1 Ts1 HO; iintro ⟨C_ss1, HO⟩
  iapply (wait_qs m σ K c 0 0 (by decide) 5 rfl) $$ HR C_qs0 HO; iintro ⟨Hq0, C_qs0, HO⟩
  iapply (wait_ss m σ K c 0 0 (by decide) 5 rfl) $$ HR C_ss0 HO; iintro ⟨Hs0, C_ss0, HO⟩
  rw [wp_ret]; imodintro; subst hQ6; unfold rest; dsimp only
  -- part 7
  rw [wp_then]; generalize hQ7 : rest _ = Q7; rw [k0_part7_eq_skeleton]; unfold k0_part7_skel
  simp only [Prog.lift, Prog.bind_op, Prog.bind_ret, Prog.pure_eq_ret, semSignalWord, semWaitWord, smemLoad, smemLoadElt]
  iapply (wait_load m σ K c 0 1 (by decide) 5 rfl) $$ HR C_load0 HO; iintro ⟨⟨Hf0, Hx2⟩, C_load0, HO⟩
  iapply (copy_load m σ K c 1 1 (by decide) rfl) $$ HR Hx3 Hf1 C_load1; iintro C_load1
  iapply (load_f c 0) $$ Hf0; iintro Hf0
  iapply (load_q c 0) $$ Hq0; iintro Hq0
  iapply (store_q c 0 (qch m c (ck 0 1)) (pay14_eq _)) $$ Hq0; iintro Hq0
  rw [wp_ret]; imodintro; subst hQ7; unfold rest; dsimp only
  -- part 8
  rw [wp_then]; generalize hQ8 : rest _ = Q8; rw [k0_part8_eq_skeleton]; unfold k0_part8_skel
  simp only [Prog.lift, Prog.bind_op, Prog.bind_ret, Prog.pure_eq_ret, semSignalWord, semWaitWord, smemLoad, smemLoadElt]
  iapply (load_s c 0) $$ Hs0; iintro Hs0
  iapply (store_s c 0 (sch m c (ck 0 1)) (pay16_eq _)) $$ Hs0; iintro Hs0
  icases Hqn2 with ⟨%w, Hqn2⟩; iapply (send_q m σ K c _ (Fin.ext (dev6_val σ c)) 0 1 (by decide) 5 (by decide) rfl rfl rfl) $$ HR Hq0 Hqn2 C_qs0 Tq2 HO; iintro ⟨C_qs0, HO⟩
  icases Hsn2 with ⟨%w, Hsn2⟩; iapply (send_s m σ K c _ (Fin.ext (dev7_val σ c)) 0 1 (by decide) 6 (by decide) rfl rfl rfl) $$ HR Hs0 Hsn2 C_ss0 Ts2 HO; iintro ⟨C_ss0, HO⟩
  rw [wp_ret]; imodintro; subst hQ8; unfold rest; dsimp only
  -- part 9
  rw [wp_then]; generalize hQ9 : rest _ = Q9; rw [k0_part9_eq_skeleton]; unfold k0_part9_skel
  simp only [Prog.lift, Prog.bind_op, Prog.bind_ret, Prog.pure_eq_ret, semSignalWord, semWaitWord, smemLoad, smemLoadElt]
  iapply (wait_qr m σ K c (ck 0 0) 7 (by decide) rfl) $$ HR C_qr0 HO; iintro ⟨Hqh0, C_qr0, HO⟩
  iapply (wait_sr m σ K c (ck 0 0) 7 (by decide) rfl) $$ HR C_sr0 HO; iintro ⟨Hsh0, C_sr0, HO⟩
  rw [wp_ret]; imodintro; subst hQ9; unfold rest; dsimp only
  -- part 10
  rw [wp_then]; generalize hQ10 : rest _ = Q10; rw [k0_part10_eq_skeleton]; unfold k0_part10_skel
  simp only [Prog.lift, Prog.bind_op, Prog.bind_ret, Prog.pure_eq_ret, semSignalWord, semWaitWord, smemLoad, smemLoadElt]
  iapply (copy_st m σ K c 0 0 (by decide) rfl) $$ HR Hqh0 Hqt0 C_st0; iintro C_st0
  iapply (copy_sst m σ K c 0 0 (by decide) rfl) $$ HR Hsh0 Hst0 C_sst0; iintro C_sst0
  iapply (wait_st m σ K c 0 0 (by decide) 7 rfl) $$ HR C_st0 HO; iintro ⟨⟨Hqt0, Hqh0⟩, C_st0, HO⟩
  iapply (wait_sst m σ K c 0 0 (by decide) 7 rfl) $$ HR C_sst0 HO; iintro ⟨⟨Hst0, Hsh0⟩, C_sst0, HO⟩
  iapply (load_st c 0) $$ Hst0; iintro Hst0
  iapply (load_qt c 0) $$ Hqt0; iintro Hqt0
  rw [wp_ret]; imodintro; subst hQ10; unfold rest; dsimp only
  -- part 11
  rw [wp_then]; generalize hQ11 : rest _ = Q11; rw [k0_part11_eq_skeleton]; unfold k0_part11_skel
  simp only [Prog.lift, Prog.bind_op, Prog.bind_ret, Prog.pure_eq_ret, semSignalWord, semWaitWord, smemLoad, smemLoadElt]
  iapply (load_ob c 0) $$ Hob0; iintro Hob0
  iapply (store_ob c 0 (och m σ c (ck 0 0)) (pay19_eq _ _)) $$ Hob0; iintro Hob0
  iapply (copy_out m σ K c 0 0 (by decide) rfl) $$ HR Hob0 Ho0 C_out0; iintro C_out0
  iapply (wait_qs m σ K c 1 0 (by decide) 7 rfl) $$ HR C_qs1 HO; iintro ⟨Hq1, C_qs1, HO⟩
  iapply (wait_ss m σ K c 1 0 (by decide) 7 rfl) $$ HR C_ss1 HO; iintro ⟨Hs1, C_ss1, HO⟩
  rw [wp_ret]; imodintro; subst hQ11; unfold rest; dsimp only
  -- part 12
  rw [wp_then]; generalize hQ12 : rest _ = Q12; rw [k0_part12_eq_skeleton]; unfold k0_part12_skel
  simp only [Prog.lift, Prog.bind_op, Prog.bind_ret, Prog.pure_eq_ret, semSignalWord, semWaitWord, smemLoad, smemLoadElt]
  iapply (wait_load m σ K c 1 1 (by decide) 7 rfl) $$ HR C_load1 HO; iintro ⟨⟨Hf1, Hx3⟩, C_load1, HO⟩
  iapply (copy_load m σ K c 0 2 (by decide) rfl) $$ HR Hx4 Hf0 C_load0; iintro C_load0
  iapply (load_f c 1) $$ Hf1; iintro Hf1
  iapply (load_q c 1) $$ Hq1; iintro Hq1
  iapply (store_q c 1 (qch m c (ck 1 1)) (pay22_eq _)) $$ Hq1; iintro Hq1
  rw [wp_ret]; imodintro; subst hQ12; unfold rest; dsimp only
  -- part 13
  rw [wp_then]; generalize hQ13 : rest _ = Q13; rw [k0_part13_eq_skeleton]; unfold k0_part13_skel
  simp only [Prog.lift, Prog.bind_op, Prog.bind_ret, Prog.pure_eq_ret, semSignalWord, semWaitWord, smemLoad, smemLoadElt]
  iapply (load_s c 1) $$ Hs1; iintro Hs1
  iapply (store_s c 1 (sch m c (ck 1 1)) (pay24_eq _)) $$ Hs1; iintro Hs1
  icases Hqn3 with ⟨%w, Hqn3⟩; iapply (send_q m σ K c _ (Fin.ext (dev8_val σ c)) 1 1 (by decide) 7 (by decide) rfl rfl rfl) $$ HR Hq1 Hqn3 C_qs1 Tq3 HO; iintro ⟨C_qs1, HO⟩
  icases Hsn3 with ⟨%w, Hsn3⟩; iapply (send_s m σ K c _ (Fin.ext (dev9_val σ c)) 1 1 (by decide) 8 (by decide) rfl rfl rfl) $$ HR Hs1 Hsn3 C_ss1 Ts3 HO; iintro ⟨C_ss1, HO⟩
  rw [wp_ret]; imodintro; subst hQ13; unfold rest; dsimp only
  -- part 14
  rw [wp_then]; generalize hQ14 : rest _ = Q14; rw [k0_part14_eq_skeleton]; unfold k0_part14_skel
  simp only [Prog.lift, Prog.bind_op, Prog.bind_ret, Prog.pure_eq_ret, semSignalWord, semWaitWord, smemLoad, smemLoadElt]
  iapply (wait_qr m σ K c (ck 1 0) 9 (by decide) rfl) $$ HR C_qr1 HO; iintro ⟨Hqh1, C_qr1, HO⟩
  iapply (wait_sr m σ K c (ck 1 0) 9 (by decide) rfl) $$ HR C_sr1 HO; iintro ⟨Hsh1, C_sr1, HO⟩
  rw [wp_ret]; imodintro; subst hQ14; unfold rest; dsimp only
  -- part 15
  rw [wp_then]; generalize hQ15 : rest _ = Q15; rw [k0_part15_eq_skeleton]; unfold k0_part15_skel
  simp only [Prog.lift, Prog.bind_op, Prog.bind_ret, Prog.pure_eq_ret, semSignalWord, semWaitWord, smemLoad, smemLoadElt]
  iapply (copy_st m σ K c 1 0 (by decide) rfl) $$ HR Hqh1 Hqt1 C_st1; iintro C_st1
  iapply (copy_sst m σ K c 1 0 (by decide) rfl) $$ HR Hsh1 Hst1 C_sst1; iintro C_sst1
  iapply (wait_st m σ K c 1 0 (by decide) 9 rfl) $$ HR C_st1 HO; iintro ⟨⟨Hqt1, Hqh1⟩, C_st1, HO⟩
  iapply (wait_sst m σ K c 1 0 (by decide) 9 rfl) $$ HR C_sst1 HO; iintro ⟨⟨Hst1, Hsh1⟩, C_sst1, HO⟩
  iapply (load_st c 1) $$ Hst1; iintro Hst1
  iapply (load_qt c 1) $$ Hqt1; iintro Hqt1
  rw [wp_ret]; imodintro; subst hQ15; unfold rest; dsimp only
  -- part 16
  rw [wp_then]; generalize hQ16 : rest _ = Q16; rw [k0_part16_eq_skeleton]; unfold k0_part16_skel
  simp only [Prog.lift, Prog.bind_op, Prog.bind_ret, Prog.pure_eq_ret, semSignalWord, semWaitWord, smemLoad, smemLoadElt]
  iapply (load_ob c 1) $$ Hob1; iintro Hob1
  iapply (store_ob c 1 (och m σ c (ck 1 0)) (pay27_eq _ _)) $$ Hob1; iintro Hob1
  iapply (copy_out m σ K c 1 0 (by decide) rfl) $$ HR Hob1 Ho1 C_out1; iintro C_out1
  iapply (wait_qs m σ K c 0 1 (by decide) 9 rfl) $$ HR C_qs0 HO; iintro ⟨Hq0, C_qs0, HO⟩
  iapply (wait_ss m σ K c 0 1 (by decide) 9 rfl) $$ HR C_ss0 HO; iintro ⟨Hs0, C_ss0, HO⟩
  rw [wp_ret]; imodintro; subst hQ16; unfold rest; dsimp only
  -- part 17
  rw [wp_then]; generalize hQ17 : rest _ = Q17; rw [k0_part17_eq_skeleton]; unfold k0_part17_skel
  simp only [Prog.lift, Prog.bind_op, Prog.bind_ret, Prog.pure_eq_ret, semSignalWord, semWaitWord, smemLoad, smemLoadElt]
  iapply (wait_load m σ K c 0 2 (by decide) 9 rfl) $$ HR C_load0 HO; iintro ⟨⟨Hf0, Hx4⟩, C_load0, HO⟩
  iapply (copy_load m σ K c 1 2 (by decide) rfl) $$ HR Hx5 Hf1 C_load1; iintro C_load1
  iapply (load_f c 0) $$ Hf0; iintro Hf0
  iapply (load_q c 0) $$ Hq0; iintro Hq0
  iapply (store_q c 0 (qch m c (ck 0 2)) (pay30_eq _)) $$ Hq0; iintro Hq0
  iapply (load_s c 0) $$ Hs0; iintro Hs0
  rw [wp_ret]; imodintro; subst hQ17; unfold rest; dsimp only
  -- part 18
  rw [wp_then]; generalize hQ18 : rest _ = Q18; rw [k0_part18_eq_skeleton]; unfold k0_part18_skel
  simp only [Prog.lift, Prog.bind_op, Prog.bind_ret, Prog.pure_eq_ret, semSignalWord, semWaitWord, smemLoad, smemLoadElt]
  iapply (store_s c 0 (sch m c (ck 0 2)) (pay32_eq _)) $$ Hs0; iintro Hs0
  icases Hqn4 with ⟨%w, Hqn4⟩; iapply (send_q m σ K c _ (Fin.ext (dev10_val σ c)) 0 2 (by decide) 9 (by decide) rfl rfl rfl) $$ HR Hq0 Hqn4 C_qs0 Tq4 HO; iintro ⟨C_qs0, HO⟩
  icases Hsn4 with ⟨%w, Hsn4⟩; iapply (send_s m σ K c _ (Fin.ext (dev11_val σ c)) 0 2 (by decide) 10 (by decide) rfl rfl rfl) $$ HR Hs0 Hsn4 C_ss0 Ts4 HO; iintro ⟨C_ss0, HO⟩
  rw [wp_ret]; imodintro; subst hQ18; unfold rest; dsimp only
  -- part 19
  rw [wp_then]; generalize hQ19 : rest _ = Q19; rw [k0_part19_eq_skeleton]; unfold k0_part19_skel
  simp only [Prog.lift, Prog.bind_op, Prog.bind_ret, Prog.pure_eq_ret, semSignalWord, semWaitWord, smemLoad, smemLoadElt]
  iapply (wait_qr m σ K c (ck 0 1) 11 (by decide) rfl) $$ HR C_qr2 HO; iintro ⟨Hqh2, C_qr2, HO⟩
  iapply (wait_sr m σ K c (ck 0 1) 11 (by decide) rfl) $$ HR C_sr2 HO; iintro ⟨Hsh2, C_sr2, HO⟩
  rw [wp_ret]; imodintro; subst hQ19; unfold rest; dsimp only
  -- part 20
  rw [wp_then]; generalize hQ20 : rest _ = Q20; rw [k0_part20_eq_skeleton]; unfold k0_part20_skel
  simp only [Prog.lift, Prog.bind_op, Prog.bind_ret, Prog.pure_eq_ret, semSignalWord, semWaitWord, smemLoad, smemLoadElt]
  iapply (copy_st m σ K c 0 1 (by decide) rfl) $$ HR Hqh2 Hqt0 C_st0; iintro C_st0
  iapply (copy_sst m σ K c 0 1 (by decide) rfl) $$ HR Hsh2 Hst0 C_sst0; iintro C_sst0
  iapply (wait_st m σ K c 0 1 (by decide) 11 rfl) $$ HR C_st0 HO; iintro ⟨⟨Hqt0, Hqh2⟩, C_st0, HO⟩
  iapply (wait_sst m σ K c 0 1 (by decide) 11 rfl) $$ HR C_sst0 HO; iintro ⟨⟨Hst0, Hsh2⟩, C_sst0, HO⟩
  iapply (load_st c 0) $$ Hst0; iintro Hst0
  iapply (load_qt c 0) $$ Hqt0; iintro Hqt0
  rw [wp_ret]; imodintro; subst hQ20; unfold rest; dsimp only
  -- part 21
  rw [wp_then]; generalize hQ21 : rest _ = Q21; rw [k0_part21_eq_skeleton]; unfold k0_part21_skel
  simp only [Prog.lift, Prog.bind_op, Prog.bind_ret, Prog.pure_eq_ret, semSignalWord, semWaitWord, smemLoad, smemLoadElt]
  iapply (wait_out m σ K c 0 0 (by decide) 11 rfl) $$ HR C_out0 HO; iintro ⟨⟨Ho0, Hob0⟩, C_out0, HO⟩
  iapply (load_ob c 0) $$ Hob0; iintro Hob0
  iapply (store_ob c 0 (och m σ c (ck 0 1)) (pay34_eq _ _)) $$ Hob0; iintro Hob0
  iapply (copy_out m σ K c 0 1 (by decide) rfl) $$ HR Hob0 Ho2 C_out0; iintro C_out0
  iapply (wait_qs m σ K c 1 1 (by decide) 11 rfl) $$ HR C_qs1 HO; iintro ⟨Hq1, C_qs1, HO⟩
  rw [wp_ret]; imodintro; subst hQ21; unfold rest; dsimp only
  -- part 22
  rw [wp_then]; generalize hQ22 : rest _ = Q22; rw [k0_part22_eq_skeleton]; unfold k0_part22_skel
  simp only [Prog.lift, Prog.bind_op, Prog.bind_ret, Prog.pure_eq_ret, semSignalWord, semWaitWord, smemLoad, smemLoadElt]
  iapply (wait_ss m σ K c 1 1 (by decide) 11 rfl) $$ HR C_ss1 HO; iintro ⟨Hs1, C_ss1, HO⟩
  iapply (wait_load m σ K c 1 2 (by decide) 11 rfl) $$ HR C_load1 HO; iintro ⟨⟨Hf1, Hx5⟩, C_load1, HO⟩
  iapply (copy_load m σ K c 0 3 (by decide) rfl) $$ HR Hx6 Hf0 C_load0; iintro C_load0
  iapply (load_f c 1) $$ Hf1; iintro Hf1
  rw [wp_ret]; imodintro; subst hQ22; unfold rest; dsimp only
  -- part 23
  rw [wp_then]; generalize hQ23 : rest _ = Q23; rw [k0_part23_eq_skeleton]; unfold k0_part23_skel
  simp only [Prog.lift, Prog.bind_op, Prog.bind_ret, Prog.pure_eq_ret, semSignalWord, semWaitWord, smemLoad, smemLoadElt]
  iapply (load_q c 1) $$ Hq1; iintro Hq1
  iapply (store_q c 1 (qch m c (ck 1 2)) (pay38_eq _)) $$ Hq1; iintro Hq1
  iapply (load_s c 1) $$ Hs1; iintro Hs1
  iapply (store_s c 1 (sch m c (ck 1 2)) (pay39_eq _)) $$ Hs1; iintro Hs1
  icases Hqn5 with ⟨%w, Hqn5⟩; iapply (send_q m σ K c _ (Fin.ext (dev12_val σ c)) 1 2 (by decide) 11 (by decide) rfl rfl rfl) $$ HR Hq1 Hqn5 C_qs1 Tq5 HO; iintro ⟨C_qs1, HO⟩
  rw [wp_ret]; imodintro; subst hQ23; unfold rest; dsimp only
  -- part 24
  rw [wp_then]; generalize hQ24 : rest _ = Q24; rw [k0_part24_eq_skeleton]; unfold k0_part24_skel
  simp only [Prog.lift, Prog.bind_op, Prog.bind_ret, Prog.pure_eq_ret, semSignalWord, semWaitWord, smemLoad, smemLoadElt]
  icases Hsn5 with ⟨%w, Hsn5⟩; iapply (send_s m σ K c _ (Fin.ext (dev13_val σ c)) 1 2 (by decide) 12 (by decide) rfl rfl rfl) $$ HR Hs1 Hsn5 C_ss1 Ts5 HO; iintro ⟨C_ss1, HO⟩
  iapply (wait_qr m σ K c (ck 1 1) 13 (by decide) rfl) $$ HR C_qr3 HO; iintro ⟨Hqh3, C_qr3, HO⟩
  iapply (wait_sr m σ K c (ck 1 1) 13 (by decide) rfl) $$ HR C_sr3 HO; iintro ⟨Hsh3, C_sr3, HO⟩
  rw [wp_ret]; imodintro; subst hQ24; unfold rest; dsimp only
  -- part 25
  rw [wp_then]; generalize hQ25 : rest _ = Q25; rw [k0_part25_eq_skeleton]; unfold k0_part25_skel
  simp only [Prog.lift, Prog.bind_op, Prog.bind_ret, Prog.pure_eq_ret, semSignalWord, semWaitWord, smemLoad, smemLoadElt]
  iapply (copy_st m σ K c 1 1 (by decide) rfl) $$ HR Hqh3 Hqt1 C_st1; iintro C_st1
  iapply (copy_sst m σ K c 1 1 (by decide) rfl) $$ HR Hsh3 Hst1 C_sst1; iintro C_sst1
  iapply (wait_st m σ K c 1 1 (by decide) 13 rfl) $$ HR C_st1 HO; iintro ⟨⟨Hqt1, Hqh3⟩, C_st1, HO⟩
  iapply (wait_sst m σ K c 1 1 (by decide) 13 rfl) $$ HR C_sst1 HO; iintro ⟨⟨Hst1, Hsh3⟩, C_sst1, HO⟩
  iapply (load_st c 1) $$ Hst1; iintro Hst1
  rw [wp_ret]; imodintro; subst hQ25; unfold rest; dsimp only
  -- part 26
  rw [wp_then]; generalize hQ26 : rest _ = Q26; rw [k0_part26_eq_skeleton]; unfold k0_part26_skel
  simp only [Prog.lift, Prog.bind_op, Prog.bind_ret, Prog.pure_eq_ret, semSignalWord, semWaitWord, smemLoad, smemLoadElt]
  iapply (load_qt c 1) $$ Hqt1; iintro Hqt1
  iapply (wait_out m σ K c 1 0 (by decide) 13 rfl) $$ HR C_out1 HO; iintro ⟨⟨Ho1, Hob1⟩, C_out1, HO⟩
  iapply (load_ob c 1) $$ Hob1; iintro Hob1
  iapply (store_ob c 1 (och m σ c (ck 1 1)) (pay40_eq _ _)) $$ Hob1; iintro Hob1
  iapply (copy_out m σ K c 1 1 (by decide) rfl) $$ HR Hob1 Ho3 C_out1; iintro C_out1
  rw [wp_ret]; imodintro; subst hQ26; unfold rest; dsimp only
  -- part 27
  rw [wp_then]; generalize hQ27 : rest _ = Q27; rw [k0_part27_eq_skeleton]; unfold k0_part27_skel
  simp only [Prog.lift, Prog.bind_op, Prog.bind_ret, Prog.pure_eq_ret, semSignalWord, semWaitWord, smemLoad, smemLoadElt]
  iapply (wait_qs m σ K c 0 2 (by decide) 13 rfl) $$ HR C_qs0 HO; iintro ⟨Hq0, C_qs0, HO⟩
  iapply (wait_ss m σ K c 0 2 (by decide) 13 rfl) $$ HR C_ss0 HO; iintro ⟨Hs0, C_ss0, HO⟩
  iapply (wait_load m σ K c 0 3 (by decide) 13 rfl) $$ HR C_load0 HO; iintro ⟨⟨Hf0, Hx6⟩, C_load0, HO⟩
  iapply (copy_load m σ K c 1 3 (by decide) rfl) $$ HR Hx7 Hf1 C_load1; iintro C_load1
  iapply (load_f c 0) $$ Hf0; iintro Hf0
  rw [wp_ret]; imodintro; subst hQ27; unfold rest; dsimp only
  -- part 28
  rw [wp_then]; generalize hQ28 : rest _ = Q28; rw [k0_part28_eq_skeleton]; unfold k0_part28_skel
  simp only [Prog.lift, Prog.bind_op, Prog.bind_ret, Prog.pure_eq_ret, semSignalWord, semWaitWord, smemLoad, smemLoadElt]
  iapply (load_q c 0) $$ Hq0; iintro Hq0
  iapply (store_q c 0 (qch m c (ck 0 3)) (pay45_eq _)) $$ Hq0; iintro Hq0
  iapply (load_s c 0) $$ Hs0; iintro Hs0
  iapply (store_s c 0 (sch m c (ck 0 3)) (pay46_eq _)) $$ Hs0; iintro Hs0
  icases Hqn6 with ⟨%w, Hqn6⟩; iapply (send_q m σ K c _ (Fin.ext (dev14_val σ c)) 0 3 (by decide) 13 (by decide) rfl rfl rfl) $$ HR Hq0 Hqn6 C_qs0 Tq6 HO; iintro ⟨C_qs0, HO⟩
  rw [wp_ret]; imodintro; subst hQ28; unfold rest; dsimp only
  -- part 29
  rw [wp_then]; generalize hQ29 : rest _ = Q29; rw [k0_part29_eq_skeleton]; unfold k0_part29_skel
  simp only [Prog.lift, Prog.bind_op, Prog.bind_ret, Prog.pure_eq_ret, semSignalWord, semWaitWord, smemLoad, smemLoadElt]
  icases Hsn6 with ⟨%w, Hsn6⟩; iapply (send_s m σ K c _ (Fin.ext (dev15_val σ c)) 0 3 (by decide) 14 (by decide) rfl rfl rfl) $$ HR Hs0 Hsn6 C_ss0 Ts6 HO; iintro ⟨C_ss0, HO⟩
  iapply (wait_qr m σ K c (ck 0 2) 15 (by decide) rfl) $$ HR C_qr4 HO; iintro ⟨Hqh4, C_qr4, HO⟩
  rw [wp_ret]; imodintro; subst hQ29; unfold rest; dsimp only
  -- part 30
  rw [wp_then]; generalize hQ30 : rest _ = Q30; rw [k0_part30_eq_skeleton]; unfold k0_part30_skel
  simp only [Prog.lift, Prog.bind_op, Prog.bind_ret, Prog.pure_eq_ret, semSignalWord, semWaitWord, smemLoad, smemLoadElt]
  iapply (wait_sr m σ K c (ck 0 2) 15 (by decide) rfl) $$ HR C_sr4 HO; iintro ⟨Hsh4, C_sr4, HO⟩
  iapply (copy_st m σ K c 0 2 (by decide) rfl) $$ HR Hqh4 Hqt0 C_st0; iintro C_st0
  iapply (copy_sst m σ K c 0 2 (by decide) rfl) $$ HR Hsh4 Hst0 C_sst0; iintro C_sst0
  iapply (wait_st m σ K c 0 2 (by decide) 15 rfl) $$ HR C_st0 HO; iintro ⟨⟨Hqt0, Hqh4⟩, C_st0, HO⟩
  rw [wp_ret]; imodintro; subst hQ30; unfold rest; dsimp only
  -- part 31
  rw [wp_then]; generalize hQ31 : rest _ = Q31; rw [k0_part31_eq_skeleton]; unfold k0_part31_skel
  simp only [Prog.lift, Prog.bind_op, Prog.bind_ret, Prog.pure_eq_ret, semSignalWord, semWaitWord, smemLoad, smemLoadElt]
  iapply (wait_sst m σ K c 0 2 (by decide) 15 rfl) $$ HR C_sst0 HO; iintro ⟨⟨Hst0, Hsh4⟩, C_sst0, HO⟩
  iapply (load_st c 0) $$ Hst0; iintro Hst0
  iapply (load_qt c 0) $$ Hqt0; iintro Hqt0
  iapply (wait_out m σ K c 0 1 (by decide) 15 rfl) $$ HR C_out0 HO; iintro ⟨⟨Ho2, Hob0⟩, C_out0, HO⟩
  iapply (load_ob c 0) $$ Hob0; iintro Hob0
  iapply (store_ob c 0 (och m σ c (ck 0 2)) (pay47_eq _ _)) $$ Hob0; iintro Hob0
  rw [wp_ret]; imodintro; subst hQ31; unfold rest; dsimp only
  -- part 32
  rw [wp_then]; generalize hQ32 : rest _ = Q32; rw [k0_part32_eq_skeleton]; unfold k0_part32_skel
  simp only [Prog.lift, Prog.bind_op, Prog.bind_ret, Prog.pure_eq_ret, semSignalWord, semWaitWord, smemLoad, smemLoadElt]
  iapply (copy_out m σ K c 0 2 (by decide) rfl) $$ HR Hob0 Ho4 C_out0; iintro C_out0
  iapply (wait_qs m σ K c 1 2 (by decide) 15 rfl) $$ HR C_qs1 HO; iintro ⟨Hq1, C_qs1, HO⟩
  iapply (wait_ss m σ K c 1 2 (by decide) 15 rfl) $$ HR C_ss1 HO; iintro ⟨Hs1, C_ss1, HO⟩
  iapply (wait_load m σ K c 1 3 (by decide) 15 rfl) $$ HR C_load1 HO; iintro ⟨⟨Hf1, Hx7⟩, C_load1, HO⟩
  iapply (load_f c 1) $$ Hf1; iintro Hf1
  rw [wp_ret]; imodintro; subst hQ32; unfold rest; dsimp only
  -- part 33
  rw [wp_then]; generalize hQ33 : rest _ = Q33; rw [k0_part33_eq_skeleton]; unfold k0_part33_skel
  simp only [Prog.lift, Prog.bind_op, Prog.bind_ret, Prog.pure_eq_ret, semSignalWord, semWaitWord, smemLoad, smemLoadElt]
  iapply (load_q c 1) $$ Hq1; iintro Hq1
  iapply (store_q c 1 (qch m c (ck 1 3)) (pay50_eq _)) $$ Hq1; iintro Hq1
  iapply (load_s c 1) $$ Hs1; iintro Hs1
  iapply (store_s c 1 (sch m c (ck 1 3)) (pay51_eq _)) $$ Hs1; iintro Hs1
  icases Hqn7 with ⟨%w, Hqn7⟩; iapply (send_q m σ K c _ (Fin.ext (dev16_val σ c)) 1 3 (by decide) 15 (by decide) rfl rfl rfl) $$ HR Hq1 Hqn7 C_qs1 Tq7 HO; iintro ⟨C_qs1, HO⟩
  rw [wp_ret]; imodintro; subst hQ33; unfold rest; dsimp only
  -- part 34
  rw [wp_then]; generalize hQ34 : rest _ = Q34; rw [k0_part34_eq_skeleton]; unfold k0_part34_skel
  simp only [Prog.lift, Prog.bind_op, Prog.bind_ret, Prog.pure_eq_ret, semSignalWord, semWaitWord, smemLoad, smemLoadElt]
  icases Hsn7 with ⟨%w, Hsn7⟩; iapply (send_s m σ K c _ (Fin.ext (dev17_val σ c)) 1 3 (by decide) 16 (by decide) rfl rfl rfl) $$ HR Hs1 Hsn7 C_ss1 Ts7 HO; iintro ⟨C_ss1, HO⟩
  iapply (wait_qr m σ K c (ck 1 2) 17 (by decide) rfl) $$ HR C_qr5 HO; iintro ⟨Hqh5, C_qr5, HO⟩
  rw [wp_ret]; imodintro; subst hQ34; unfold rest; dsimp only
  -- part 35
  rw [wp_then]; generalize hQ35 : rest _ = Q35; rw [k0_part35_eq_skeleton]; unfold k0_part35_skel
  simp only [Prog.lift, Prog.bind_op, Prog.bind_ret, Prog.pure_eq_ret, semSignalWord, semWaitWord, smemLoad, smemLoadElt]
  iapply (wait_sr m σ K c (ck 1 2) 17 (by decide) rfl) $$ HR C_sr5 HO; iintro ⟨Hsh5, C_sr5, HO⟩
  iapply (copy_st m σ K c 1 2 (by decide) rfl) $$ HR Hqh5 Hqt1 C_st1; iintro C_st1
  iapply (copy_sst m σ K c 1 2 (by decide) rfl) $$ HR Hsh5 Hst1 C_sst1; iintro C_sst1
  iapply (wait_st m σ K c 1 2 (by decide) 17 rfl) $$ HR C_st1 HO; iintro ⟨⟨Hqt1, Hqh5⟩, C_st1, HO⟩
  rw [wp_ret]; imodintro; subst hQ35; unfold rest; dsimp only
  -- part 36
  rw [wp_then]; generalize hQ36 : rest _ = Q36; rw [k0_part36_eq_skeleton]; unfold k0_part36_skel
  simp only [Prog.lift, Prog.bind_op, Prog.bind_ret, Prog.pure_eq_ret, semSignalWord, semWaitWord, smemLoad, smemLoadElt]
  iapply (wait_sst m σ K c 1 2 (by decide) 17 rfl) $$ HR C_sst1 HO; iintro ⟨⟨Hst1, Hsh5⟩, C_sst1, HO⟩
  iapply (load_st c 1) $$ Hst1; iintro Hst1
  iapply (load_qt c 1) $$ Hqt1; iintro Hqt1
  iapply (wait_out m σ K c 1 1 (by decide) 17 rfl) $$ HR C_out1 HO; iintro ⟨⟨Ho3, Hob1⟩, C_out1, HO⟩
  iapply (load_ob c 1) $$ Hob1; iintro Hob1
  iapply (store_ob c 1 (och m σ c (ck 1 2)) (pay52_eq _ _)) $$ Hob1; iintro Hob1
  rw [wp_ret]; imodintro; subst hQ36; unfold rest; dsimp only
  -- part 37
  rw [wp_then]; generalize hQ37 : rest _ = Q37; rw [k0_part37_eq_skeleton]; unfold k0_part37_skel
  simp only [Prog.lift, Prog.bind_op, Prog.bind_ret, Prog.pure_eq_ret, semSignalWord, semWaitWord, smemLoad, smemLoadElt]
  iapply (copy_out m σ K c 1 2 (by decide) rfl) $$ HR Hob1 Ho5 C_out1; iintro C_out1
  iapply (wait_qr m σ K c (ck 0 3) 17 (by decide) rfl) $$ HR C_qr6 HO; iintro ⟨Hqh6, C_qr6, HO⟩
  iapply (wait_sr m σ K c (ck 0 3) 17 (by decide) rfl) $$ HR C_sr6 HO; iintro ⟨Hsh6, C_sr6, HO⟩
  rw [wp_ret]; imodintro; subst hQ37; unfold rest; dsimp only
  -- part 38
  rw [wp_then]; generalize hQ38 : rest _ = Q38; rw [k0_part38_eq_skeleton]; unfold k0_part38_skel
  simp only [Prog.lift, Prog.bind_op, Prog.bind_ret, Prog.pure_eq_ret, semSignalWord, semWaitWord, smemLoad, smemLoadElt]
  iapply (copy_st m σ K c 0 3 (by decide) rfl) $$ HR Hqh6 Hqt0 C_st0; iintro C_st0
  iapply (copy_sst m σ K c 0 3 (by decide) rfl) $$ HR Hsh6 Hst0 C_sst0; iintro C_sst0
  iapply (wait_st m σ K c 0 3 (by decide) 17 rfl) $$ HR C_st0 HO; iintro ⟨⟨Hqt0, Hqh6⟩, C_st0, HO⟩
  iapply (wait_sst m σ K c 0 3 (by decide) 17 rfl) $$ HR C_sst0 HO; iintro ⟨⟨Hst0, Hsh6⟩, C_sst0, HO⟩
  iapply (load_st c 0) $$ Hst0; iintro Hst0
  iapply (load_qt c 0) $$ Hqt0; iintro Hqt0
  rw [wp_ret]; imodintro; subst hQ38; unfold rest; dsimp only
  -- part 39
  rw [wp_then]; generalize hQ39 : rest _ = Q39; rw [k0_part39_eq_skeleton]; unfold k0_part39_skel
  simp only [Prog.lift, Prog.bind_op, Prog.bind_ret, Prog.pure_eq_ret, semSignalWord, semWaitWord, smemLoad, smemLoadElt]
  iapply (wait_out m σ K c 0 2 (by decide) 17 rfl) $$ HR C_out0 HO; iintro ⟨⟨Ho4, Hob0⟩, C_out0, HO⟩
  iapply (load_ob c 0) $$ Hob0; iintro Hob0
  iapply (store_ob c 0 (och m σ c (ck 0 3)) (pay55_eq _ _)) $$ Hob0; iintro Hob0
  iapply (copy_out m σ K c 0 3 (by decide) rfl) $$ HR Hob0 Ho6 C_out0; iintro C_out0
  rw [wp_ret]; imodintro; subst hQ39; unfold rest; dsimp only
  -- part 40
  rw [wp_then]; generalize hQ40 : rest _ = Q40; rw [k0_part40_eq_skeleton]; unfold k0_part40_skel
  simp only [Prog.lift, Prog.bind_op, Prog.bind_ret, Prog.pure_eq_ret, semSignalWord, semWaitWord, smemLoad, smemLoadElt]
  iapply (wait_qr m σ K c (ck 1 3) 17 (by decide) rfl) $$ HR C_qr7 HO; iintro ⟨Hqh7, C_qr7, HO⟩
  iapply (wait_sr m σ K c (ck 1 3) 17 (by decide) rfl) $$ HR C_sr7 HO; iintro ⟨Hsh7, C_sr7, HO⟩
  iapply (copy_st m σ K c 1 3 (by decide) rfl) $$ HR Hqh7 Hqt1 C_st1; iintro C_st1
  iapply (copy_sst m σ K c 1 3 (by decide) rfl) $$ HR Hsh7 Hst1 C_sst1; iintro C_sst1
  rw [wp_ret]; imodintro; subst hQ40; unfold rest; dsimp only
  -- part 41
  rw [wp_then]; generalize hQ41 : rest _ = Q41; rw [k0_part41_eq_skeleton]; unfold k0_part41_skel
  simp only [Prog.lift, Prog.bind_op, Prog.bind_ret, Prog.pure_eq_ret, semSignalWord, semWaitWord, smemLoad, smemLoadElt]
  iapply (wait_st m σ K c 1 3 (by decide) 17 rfl) $$ HR C_st1 HO; iintro ⟨⟨Hqt1, Hqh7⟩, C_st1, HO⟩
  iapply (wait_sst m σ K c 1 3 (by decide) 17 rfl) $$ HR C_sst1 HO; iintro ⟨⟨Hst1, Hsh7⟩, C_sst1, HO⟩
  iapply (load_st c 1) $$ Hst1; iintro Hst1
  iapply (load_qt c 1) $$ Hqt1; iintro Hqt1
  iapply (wait_out m σ K c 1 2 (by decide) 17 rfl) $$ HR C_out1 HO; iintro ⟨⟨Ho5, Hob1⟩, C_out1, HO⟩
  rw [wp_ret]; imodintro; subst hQ41; unfold rest; dsimp only
  -- part 42
  rw [wp_then]; generalize hQ42 : rest _ = Q42; rw [k0_part42_eq_skeleton]; unfold k0_part42_skel
  simp only [Prog.lift, Prog.bind_op, Prog.bind_ret, Prog.pure_eq_ret, semSignalWord, semWaitWord, smemLoad, smemLoadElt]
  iapply (load_ob c 1) $$ Hob1; iintro Hob1
  iapply (store_ob c 1 (och m σ c (ck 1 3)) (pay57_eq _ _)) $$ Hob1; iintro Hob1
  iapply (copy_out m σ K c 1 3 (by decide) rfl) $$ HR Hob1 Ho7 C_out1; iintro C_out1
  iapply (wait_qs m σ K c 0 3 (by decide) 17 rfl) $$ HR C_qs0 HO; iintro ⟨Hq0, C_qs0, HO⟩
  iapply (wait_ss m σ K c 0 3 (by decide) 17 rfl) $$ HR C_ss0 HO; iintro ⟨Hs0, C_ss0, HO⟩
  rw [wp_ret]; imodintro; subst hQ42; unfold rest; dsimp only
  -- part 43
  rw [wp_then]; generalize hQ43 : rest _ = Q43; rw [k0_part43_eq_skeleton]; unfold k0_part43_skel
  simp only [Prog.lift, Prog.bind_op, Prog.bind_ret, Prog.pure_eq_ret, semSignalWord, semWaitWord, smemLoad, smemLoadElt]
  iapply (wait_out m σ K c 0 3 (by decide) 17 rfl) $$ HR C_out0 HO; iintro ⟨⟨Ho6, Hob0⟩, C_out0, HO⟩
  iapply (wait_qs m σ K c 1 3 (by decide) 17 rfl) $$ HR C_qs1 HO; iintro ⟨Hq1, C_qs1, HO⟩
  iapply (wait_ss m σ K c 1 3 (by decide) 17 rfl) $$ HR C_ss1 HO; iintro ⟨Hs1, C_ss1, HO⟩
  iapply (wait_out m σ K c 1 3 (by decide) 17 rfl) $$ HR C_out1 HO; iintro ⟨⟨Ho7, Hob1⟩, C_out1, HO⟩
  rw [wp_ret]; imodintro; subst hQ43; unfold rest; dsimp only
  simp only [semSignalWord, semWaitWord, Prog.bind_op, Prog.bind_ret, Prog.pure_eq_ret]
  iapply (signal_ack m σ K c _ (Fin.ext (dev18_val σ c)) rfl) $$ HR Tack HO; iintro HO
  iapply (wait_ack m σ K c rfl) $$ HR Cack HO; iintro ⟨-, Cack, HO⟩
  rw [wp_ret]
  iapply Hk
  iframe
  isplitl [Hf0 Hq0 Hs0 Hqt0 Hst0 Hob0]
  · isplitl [Hf0]; · iexists (xch m c (ck 0 3)); iexact Hf0
    isplitl [Hq0]; · iexists (qch m c (ck 0 3)); iexact Hq0
    isplitl [Hs0]; · iexists (sch m c (ck 0 3)); iexact Hs0
    isplitl [Hqt0]; · iexists (qch m (prv σ c) (ck 0 3)); iexact Hqt0
    isplitl [Hst0]; · iexists (sch m (prv σ c) (ck 0 3)); iexact Hst0
    iexists (och m σ c (ck 0 3)); iexact Hob0
  · isplitl [Hf1]; · iexists (xch m c (ck 1 3)); iexact Hf1
    isplitl [Hq1]; · iexists (qch m c (ck 1 3)); iexact Hq1
    isplitl [Hs1]; · iexists (sch m c (ck 1 3)); iexact Hs1
    isplitl [Hqt1]; · iexists (qch m (prv σ c) (ck 1 3)); iexact Hqt1
    isplitl [Hst1]; · iexists (sch m (prv σ c) (ck 1 3)); iexact Hst1
    iexists (och m σ c (ck 1 3)); iexact Hob1

end Cert.Exchange

end
-- ==== Proof.Launch.lean ====
/-
# The launch

The kernels of all devices run together to their end.
-/
module

public import proofs.«01_k».proof.Proof.Setup
public import proofs.«01_k».proof.Proof.Body
public import Idealize.ShloMosaic.Lib.Quiescent
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (σ : Equiv.Perm (Fin 4)) (K : Dev nD × Cix → ℕ)

variable (ρ : Dev nD → PrngReg)

/-- The scratch arrays, whole. -/
theorem slots_intro (c : Dev nD) : (Pipeline.scopedRest (Ix := Unit) (Name := ℕ) (U := UU) (Lvl := ℕ) (Val := Elt F) cfg0.spec c : sProp 𝕄) ⊢ slots c := by
  rw [scopedRest0_eq]
  unfold slots; simp only [bigSep_sep']
  iintro ⟨⟨%f0, H0⟩, ⟨%f1, H1⟩, ⟨%f2, H2⟩, ⟨%f3, H3⟩, ⟨%f4, H4⟩, ⟨%f5, H5⟩⟩
  isplitl [H0]; · iapply (scatter_any c cc0_scratch0 slotR (fun _ _ => rfl) S512x2048 (fun _ => squeezes_S1x512x2048_S512x2048) slot_tile f0); iexact H0
  isplitl [H1]; · iapply (scatter_any c cc0_scratch1 slotR (fun _ _ => rfl) S512x2048 (fun _ => squeezes_S1x512x2048_S512x2048) slot_tile f1); iexact H1
  isplitl [H2]; · iapply (scatter_any c cc0_scratch2 scalR (fun _ _ => rfl) S1x512 (fun _ => squeezes_S1x1x512_S1x512) scal_tile f2); iexact H2
  isplitl [H3]; · iapply (scatter_any c cc0_scratch3 slotR (fun _ _ => rfl) S512x2048 (fun _ => squeezes_S1x512x2048_S512x2048) slot_tile f3); iexact H3
  isplitl [H4]; · iapply (scatter_any c cc0_scratch4 scalR (fun _ _ => rfl) S1x512 (fun _ => squeezes_S1x1x512_S1x512) scal_tile f4); iexact H4
  iapply (scatter_any c cc0_scratch5 slotR (fun _ _ => rfl) S512x2048 (fun _ => squeezes_S1x512x2048_S512x2048) slot_tile f5); iexact H5

include m in
/-- The slots, given back, are the scratch buffers of the launch. -/
theorem slots_elim (c : Dev nD) : slots c ⊢ (Pipeline.scopedRest (Ix := Unit) (Name := ℕ) (U := UU) (Lvl := ℕ) (Val := Elt F) cfg0.spec c : sProp 𝕄) := by
  rw [scopedRest0_eq]
  unfold slots; simp only [bigSep_sep']
  iintro ⟨H0, H1, H2, H3, H4, H5⟩
  isplitl [H0]; · iapply (gather_any c cc0_scratch0 slotR (fun _ _ => rfl) S512x2048 (fun _ => squeezes_S1x512x2048_S512x2048) slot_tile (m ((c : Thread nD τ).loc cc0_scratch0))); iexact H0
  isplitl [H1]; · iapply (gather_any c cc0_scratch1 slotR (fun _ _ => rfl) S512x2048 (fun _ => squeezes_S1x512x2048_S512x2048) slot_tile (m ((c : Thread nD τ).loc cc0_scratch1))); iexact H1
  isplitl [H2]; · iapply (gather_any c cc0_scratch2 scalR (fun _ _ => rfl) S1x512 (fun _ => squeezes_S1x1x512_S1x512) scal_tile (m ((c : Thread nD τ).loc cc0_scratch2))); iexact H2
  isplitl [H3]; · iapply (gather_any c cc0_scratch3 slotR (fun _ _ => rfl) S512x2048 (fun _ => squeezes_S1x512x2048_S512x2048) slot_tile (m ((c : Thread nD τ).loc cc0_scratch3))); iexact H3
  isplitl [H4]; · iapply (gather_any c cc0_scratch4 scalR (fun _ _ => rfl) S1x512 (fun _ => squeezes_S1x1x512_S1x512) scal_tile (m ((c : Thread nD τ).loc cc0_scratch4))); iexact H4
  iapply (gather_any c cc0_scratch5 slotR (fun _ _ => rfl) S512x2048 (fun _ => squeezes_S1x512x2048_S512x2048) slot_tile (m ((c : Thread nD τ).loc cc0_scratch5))); iexact H5

/-- What a device's kernel starts from, but for its scratch. -/
def startK (K : Dev nD × Cix → ℕ) (c : Dev nD) : sProp 𝕄 :=
  iprop(records m σ K ∗ xs m c ∗ (bigSep Finset.univ fun k : Fin 8 => iprop(∃ v, owns (c : Thread nD τ) (oM k) fullShare v)) ∗ chans c 0
    ∗ heard (fun i => busy c i 0) ∗ dues σ c ∗ pay m σ (prv σ c) .bar 0)
/-- What a device holds at the launch, for some names of the invariants. -/
def start (c : Dev nD) : sProp 𝕄 := iprop(∃ K, startK m σ K c)
/-- What it holds as its one grid step begins; -/
def Φ₀ (c : Dev nD) : sProp 𝕄 := iprop(∃ K, records m σ K ∗ before m σ c)
/-- and as it ends. -/
def Φ₁ (c : Dev nD) : sProp 𝕄 := iprop(os m σ c ∗ slots c ∗ bigSep Finset.univ fun i : Cix => semVal (cell c i) 0)

/-- The permutation as staged. -/
def pistg (c : Dev nD) : (cc0_stg0_0 : Ref sig .tc).ty.Contents (Elt F) :=
  (win0_0.blk (0 : Fin 1)).view.read (Elt F) (m (win0_0.arr.view.loc (c : Thread nD τ)))

/-- The launch's data: the table is staged, kept as it is, and the device owes what it owes. -/
def dats (_ : Fin 1) (c : Dev nD) : Dat τ (Elt F) Unit ℕ UU ℕ cfg0 c where
  A w := m ((cfg0.win w).arr.view.loc (c : Thread nD τ))
  after w _ := match w with
    | ⟨0, _⟩ => pistg m c
  Φ t := match t with
    | ⟨0, _⟩ => Φ₀ m σ c
    | ⟨_ + 1, _⟩ => Φ₁ m σ c
  q _ := fullShare
  owed t := match t with
    | ⟨0, _⟩ => owed σ c 0
    | ⟨_ + 1, _⟩ => 0

/-- The local channels at their first turn. -/
theorem toks_local (c : Dev nD) : iprop(records m σ K ∗ locals (fun i => atPos ER (cell c i) 0 ∅ 0) ∗ locals fun i => toks c i 0) ⊢ (chans c 0 : sProp 𝕄) := by
  unfold chans chan locals
  simp only [bigSep_fin2]
  iintro ⟨#HR, ⟨⟨A0, A1, A2, A3, A4, A5⟩, A6, A7, A8, A9, A10, A11⟩, ⟨T0, T1, T2, T3, T4, T5⟩, T6, T7, T8, T9, T10, T11⟩
  ihave #R0 := (records_reached m σ K c (.load 0)) $$ HR
  ihave #R1 := (records_reached m σ K c (.qs 0)) $$ HR
  ihave #R2 := (records_reached m σ K c (.ss 0)) $$ HR
  ihave #R3 := (records_reached m σ K c (.st 0)) $$ HR
  ihave #R4 := (records_reached m σ K c (.sst 0)) $$ HR
  ihave #R5 := (records_reached m σ K c (.out 0)) $$ HR
  ihave #R6 := (records_reached m σ K c (.load 1)) $$ HR
  ihave #R7 := (records_reached m σ K c (.qs 1)) $$ HR
  ihave #R8 := (records_reached m σ K c (.ss 1)) $$ HR
  ihave #R9 := (records_reached m σ K c (.st 1)) $$ HR
  ihave #R10 := (records_reached m σ K c (.sst 1)) $$ HR
  ihave #R11 := (records_reached m σ K c (.out 1)) $$ HR
  iframe
  repeat' isplitr
  all_goals iassumption

/-- A cell with one round, set going: its credit and its place. -/
theorem busy_one (c : Dev nD) (i : Cix) (h : rounds i = 1) : (busy c i 0 : sProp 𝕄) = iprop(cred (tallyAt (cell c i) () (amt i)) ∗ atPos ER (cell c i) 0 ∅ 0) := by
  unfold busy; rw [toks_end c i (0 + 1) (by omega), with_emp]

/-- The cells that another device pays, set going. -/
theorem toks_heard (c : Dev nD) : iprop(heard (fun i => cred (tallyAt (cell c i) () (amt i))) ∗ heard (fun i => atPos ER (cell c i) 0 ∅ 0)) ⊢ (heard (fun i => busy c i 0) : sProp 𝕄) := by
  unfold heard
  dsimp only
  rw [busy_one c .bar rfl, busy_one c .ack rfl, bigSep_congr (s := Finset.univ) (fun (k : Fin 8) _ => busy_one (F := F) c (.qr k) rfl),
    bigSep_congr (s := Finset.univ) (fun (k : Fin 8) _ => busy_one (F := F) c (.sr k) rfl), bigSep_sep', bigSep_sep']
  iintro ⟨⟨H0, H1, H2, H3⟩, G0, G1, G2, G3⟩
  iframe

/-- From what the launch gives a device, what it holds at the start. -/
theorem start_intro (c : Dev nD) :
    iprop(Pipeline.unscopedRestP Pipeline.Prefetch.none cfg0.spec c (fun b => m ((c : Thread nD τ).loc b)) ∗ levAts L lv
        ∗ Pipeline.launchCred (fun d => owed σ d 0) c ∗ prngReg c (ρ c) ∗ G' m σ c)
      ⊢ |={Set.univ}=> iprop(start m σ c ∗ ((c : Thread nD τ).loc main_arg0 ↦{fullShare.left} m ((c : Thread nD τ).loc main_arg0))) := by
  rw [Pipeline.unscopedRestP_none, unscopedRest0_eq]
  unfold G' told mine
  iintro ⟨⟨Hx, Ho, Hq, Hs⟩, Hlev, Hcr, -, ⟨%K, ⟨#HI, #HR⟩, Hat, Hloc, Hdues⟩⟩
  ihave Hc := (creds (F := F) σ c) $$ Hcr
  ihave Hx2 := (pointsTo_share (PosShare.mem_left_op_right fullShare)).1 $$ Hx
  icases Hx2 with ⟨HxL, HxR⟩
  ihave Hat2 := (Entails.of_eq (cells_split fun i => atPos ER (cell c i) 0 ∅ 0)) $$ Hat
  icases Hat2 with ⟨Hh, Hl⟩
  ihave #Hrec := (show iprop((bigSep Finset.univ fun ck : Dev nD × Cix => cellInv ER (sched m σ) (K ck) (cell ck.1 ck.2))
    ∗ (bigSep Finset.univ fun ck : Dev nD × Cix => reached ER (cell ck.1 ck.2) 0) ∗ levAts L lv) ⊢ records m σ K from .rfl) $$ [Hlev]
  · isplitr; · iexact HI
    isplitr; · iexact HR
    iexact Hlev
  imodintro
  isplitr [HxL]
  · unfold start startK
    iexists K
    isplitr; · iexact Hrec
    isplitl [HxR]
    · unfold xs
      iapply (scatter c main_arg0 rowsR (fun _ _ => rfl) S512x2048 (fun _ => squeezes_S1x512x2048_S512x2048) rows_tile fullShare.right (m ((c : Thread nD τ).loc main_arg0)))
      iexact HxR
    isplitl [Ho]
    · iapply (scatter_any c main_v1_0 rowsR (fun _ _ => rfl) S512x2048 (fun _ => squeezes_S1x512x2048_S512x2048) rows_tile (m ((c : Thread nD τ).loc main_v1_0)))
      iexact Ho
    isplitl [Hl Hloc]
    · iapply (toks_local m σ K c)
      isplitr; · iexact Hrec
      isplitl [Hl] <;> iassumption
    isplitl [Hc Hh]
    · iapply (toks_heard (F := F) c)
      isplitl [Hc] <;> iassumption
    isplitl [Hdues]; · iexact Hdues
    unfold pay
    rw [nxt_prv]
    isplitl [Hq]
    · iapply (scatter_any c main_v1_1 landR (fun _ _ => rfl) S512x2048 (fun _ => squeezes_S1x512x2048_S512x2048) land_tile (m ((c : Thread nD τ).loc main_v1_1)))
      iexact Hq
    · iapply (scatter_any c main_v1_2 lscalR (fun _ _ => rfl) S1x512 (fun _ => squeezes_S1x1x512_S1x512) lscal_tile (m ((c : Thread nD τ).loc main_v1_2)))
      iexact Hs
  · iexact HxL

/-- From there, what it holds as its grid step begins. -/
theorem phi0_intro (c : Dev nD) :
    iprop(start m σ c ∗ Pipeline.prefHeld Pipeline.Prefetch.none c (fun _ => fullShare.right) (fun k => k.elim0) ∗ Pipeline.scopedRest cfg0.spec c)
      ⊢ (dats m σ 0 c).Φ 0 := by
  rw [show (dats m σ 0 c).Φ 0 = Φ₀ m σ c from rfl]
  unfold start startK Φ₀ before
  iintro ⟨⟨%K, HR, Hx, Ho, Hc, Hh, Hd, Hp⟩, -, Hs⟩
  iexists K
  isplitl [HR]; · iexact HR
  isplitl [Hx]; · iexact Hx
  isplitl [Ho]; · iexact Ho
  isplitl [Hs]; · iapply (slots_intro (F := F) c); iexact Hs
  isplitl [Hc]; · iexact Hc
  isplitl [Hh]; · iexact Hh
  isplitl [Hd]; · iexact Hd
  iexact Hp

/-- What a device leaves: its result, chunk by chunk, and its barrier's counter. -/
def left (c : Dev nD) : sProp 𝕄 :=
  iprop((∃ g : Buf (Elt F) ((c : Thread nD τ).loc main_v1_0), ⌜∀ k, (oM k).view.read (Elt F) g = och m σ c k⌝ ∗ ((c : Thread nD τ).loc main_v1_0 ↦{fullShare} g)) ∗ unscopedSems0 c)

/-- At the end it gives back its scratch buffers and its counters. -/
theorem phi1_exit (c : Dev nD) :
    (dats m σ 0 c).Φ (Fin.last cfg0.N) ⊢ iprop(left m σ c ∗ Pipeline.ownSems0 osem c ∗ Pipeline.scopedRest cfg0.spec c) := by
  rw [show (dats m σ 0 c).Φ (Fin.last cfg0.N) = Φ₁ m σ c from rfl]
  unfold Φ₁ left os
  iintro ⟨Ho, Hs, Hv⟩
  ihave Hv2 := (Entails.of_eq (sems0_eq (F := F) c).symm) $$ Hv
  icases Hv2 with ⟨Hos, Hus⟩
  isplitl [Ho Hus]
  · isplitl [Ho]
    · iapply (gather c main_v1_0 rowsR (fun _ _ => rfl) S512x2048 (fun _ => squeezes_S1x512x2048_S512x2048) rows_tile (m ((c : Thread nD τ).loc main_v1_0)) fullShare (fun k => och m σ c k))
      iexact Ho
    · iexact Hus
  isplitl [Hos]; · iexact Hos
  iapply (slots_elim m c); iexact Hs

/-- Every cell, its last round over, gives back its counter at zero. -/
theorem close_all (c : Dev nD) : iprop(records m σ K ∗ heard (fun i => chan c i 1) ∗ chans c 4) ⊢ |={Set.univ}=> (bigSep Finset.univ fun i : Cix => semVal (cell c i) 0 : sProp 𝕄) := by
  have e : iprop(heard (fun i => chan c i 1) ∗ chans c 4) = (bigSep Finset.univ fun i : Cix => chan c i (rounds i) : sProp 𝕄) := by
    rw [cells_split]; rfl
  rw [e]
  refine (share_out (Ψ := fun i => iprop(|={Set.univ}=> semVal (cell c i) 0)) fun i _ => ?_).trans (bigSep_fupd _ _)
  show iprop(records m σ K ∗ chan c i (rounds i)) ⊢ _
  iintro ⟨#HR, H⟩
  ihave Hs := (step_close m σ K c i) $$ HR
  iapply Hs; iexact H

/-- A whole buffer owned is its cells held with those contents. -/
theorem owns_whole_eq (c : Dev nD) (b : Ref sig .tc) (X : b.ty.Contents (Elt F)) :
    (owns (c : Thread nD τ) (Memref.whole b) fullShare X : sProp 𝕄) = iprop(∃ f, ⌜f = X⌝ ∗ ((c : Thread nD τ).loc b ↦{fullShare} f)) := by
  unfold owns; simp only [Memref.view_whole, View.read_whole, View.set_whole]

/-- The table is fetched at the one grid step. -/
theorem fetch_0 (t : Fin cfg0.N) : (cfg0.win (0 : Fin 1)).fetch t = true := by rw [fin_N0 t]; rfl

/-- Each staged window is held whole. -/
theorem share_eq (c : Dev nD) (w : Fin cfg0.W) : (dats m σ 0 c).share w = fullShare := by unfold Dat.share; split <;> rfl

/-- The launch's own waits are allowed. -/
theorem waits (c : Dev nD) : (levAts L lv : sProp 𝕄) ⊢ Pipeline.cellsWaits cfgs (dats m σ) () 0 c :=
  Pipeline.cellsWaits_intro cfgs (dats m σ) () 0 c fun w s t => by
    rcases t with ⟨_ | _, ht⟩
    · exact mayWait_sem σ c _ 0 0 (by fin_cases w <;> fin_cases s <;> rfl) (by decide)
    · show _ ⊢ MayWait _ _ _ 0
      rw [MayWait_zero]; iintro -; iempintro

/-- The body with its operands. -/
abbrev bodyP : Prog (TpuEff nD τ sig (Elt F) Λ₀ .tc) PUnit :=
  cc0_body (Memref.whole cc0_stg0_0) (Memref.isWhole_whole _) (Memref.whole main_arg0) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14

/-- The body, run from what the device holds, ends with what it has to hold. -/
theorem body_after (c : Dev nD) (hX : pistg m c = fun j => word σ (j 0)) :
    iprop(Φ₀ m σ c ∗ (dats m σ 0 c).owesAt () t0_0.castSucc ∗ ((c : Thread nD τ).loc cc0_stg0_0 ↦{fullShare} pistg m c))
      ⊢ wp frame (wpE (defs₀ (F := F)) 𝒱₀ c none) Set.univ (bodyP) (fun _ => iprop(Φ₁ m σ c ∗ (dats m σ 0 c).owesAt () t0_0.succ ∗ ((c : Thread nD τ).loc cc0_stg0_0 ↦{fullShare} pistg m c))) := by
  unfold Φ₀
  iintro ⟨⟨%K, #HR, Hb⟩, Ho, Hp⟩
  unfold Dat.owesAt Pipeline.owesWithin
  icases Ho with ⟨%W, %hW, HO⟩
  ihave Hrun := (run_body m σ K c (pistg m c) hX _) $$ HR
  iapply Hrun $$ Hb [HO] Hp
  · unfold owing; iexists W; rw [show (dats m σ 0 c).owed t0_0.castSucc = owed σ c 0 from rfl]; iexact HO
  iintro ⟨Ha, Ho, Hp⟩
  unfold afterwards
  icases Ha with ⟨-, Hos, Hsl, Hch, Hh⟩
  imod (close_all m σ K c) $$ [Hh Hch] with Hv
  · isplitr; · iexact HR
    isplitl [Hh] <;> iassumption
  imodintro
  unfold owing
  icases Ho with ⟨%W', HO⟩
  isplitl [Hos Hsl Hv]
  · unfold Φ₁
    isplitl [Hos]; · iexact Hos
    isplitl [Hsl] <;> iassumption
  isplitl [HO]
  · iexists W'
    isplitr; · ipureintro; exact fun _ _ => Or.inl trivial
    rw [show (dats m σ 0 c).owed t0_0.succ = 0 from rfl, ← owed_last σ c]
    iexact HO
  iexact Hp

/-- The staged table is the argument. -/
theorem pistg_eq (c : Dev nD) : pistg m c = m ((c : Thread nD τ).loc main_arg1) := by
  funext j
  refine congrArg (m ((c : Thread nD τ).loc main_arg1)) (funext fun a => Fin.ext ?_)
  obtain rfl : a = (0 : Fin 1) := @Subsingleton.elim (Fin 1) _ _ _
  show 0 * 4 + 1 * (j (0 : Fin 1)).val = (j (0 : Fin 1)).val
  omega

/-- The table of bodies, at the one entry; -/
theorem defs₀_row (t : Fin cfg0.N) : (defs₀ (F := F)) .tc cfg0.body (cfg0.bodyArgs t (cfg0.slots t)) = bodyAt0 t := by
  unfold defs₀; rw [Defs.onTc_tc]
/-- which is the body. -/
theorem body_at : bodyAt0 (F := F) t0_0 = bodyP := rfl

set_option maxRecDepth 8000 in
/-- The body meets what the launch asks of it. -/
theorem body_obligation (hX : ∀ c, pistg m c = fun j => word σ (j 0)) (c : Dev nD) : BodyObligation (dats (F := F) m σ 0 c) (defs₀ (F := F)) 𝒱₀ () Set.univ := fun t => by
  rw [fin_N0 t]
  rw [bigSep_W0, bigSep_W0, defs₀_row, body_at]
  simp only [owns_whole_eq]
  exact triple_restated (body_after m σ c (hX c)) rfl (by
    show iprop(Φ₀ m σ c ∗ (dats m σ 0 c).owesAt () t0_0.castSucc ∗ ∃ d, ∃ f, ⌜f = (dats m σ 0 c).before (0 : Fin 1) t0_0 d⌝ ∗ ((c : Thread nD τ).loc cc0_stg0_0 ↦{fullShare} f)) ⊢ _
    iintro ⟨H0, H1, ⟨%d, %f, %hf, H2⟩⟩
    obtain rfl : f = pistg m c := hf.trans (by unfold Dat.before; rw [if_pos (fetch_0 t0_0)]; rfl)
    isplitl [H0]; · iexact H0
    isplitl [H1]; · iexact H1
    iexact H2) fun _ => by
    show _ ⊢ iprop(Φ₁ m σ c ∗ (dats m σ 0 c).owesAt () t0_0.succ ∗ ∃ f, ⌜f = pistg m c⌝ ∗ ((c : Thread nD τ).loc cc0_stg0_0 ↦{fullShare} f))
    iintro ⟨H0, H1, H2⟩
    isplitl [H0]; · iexact H0
    isplitl [H1]; · iexact H1
    iexists _
    isplitr; · ipureintro; rfl
    iexact H2

set_option maxRecDepth 100000 in
/-- **The exchange runs.** On every device the kernel ends, leaving `x` and the permutation as they were, every chunk of its result the
    rounded chunk of the device it receives from, and every counter at zero. -/
theorem run_main (hpi : ∀ c : Dev nD, m ((c : Thread nD τ).loc main_arg1) = fun j => word σ (j 0)) :
    θ_run defs (onTc (τ := τ) (main (F := F))) (⟨m, fun _ => 0, ρ⟩ : MemSt nD τ sig (Elt F)) (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ ∀ k, (oM k).view.read (Elt F) (r.2.mem ((c : Thread nD τ).loc main_v1_0)) = och m σ c k) ∧ r.2.sem = fun _ => 0) :=
  Pipeline.θ_run_region_owing_glob_pf (fun p => (cfgs p).toPCfg) (fun p => (cfgs p).toPCfg_adm) (dats m σ) () cellOf_inj (0 : Fin 1)
    winFacts0.to₀ ownSemFacts (Pipeline.PreFacts.none _) EP defs₀ 𝒱₀ m ρ main
    (hmain := fun _ => rfl)
    (hbody := body_obligation m σ fun c => (pistg_eq m c).trans (hpi c)) (hne := fun w => by fin_cases w <;> exact Nat.succ_pos _) (harr := arr_whole0) (hstage := stage_whole0) (hshare := share_eq m σ)
    (hdistinct := winFacts0.arr_inj)
    (O₀ := fun d => owed σ d 0) (howed₀ := fun _ => rfl) (howedN := fun _ => rfl)
    (L := L) (lv := lv) (hL := L_of_ne) (hwaits := waits m σ)
    (G := G m σ) (G' := G' m σ) (u₀ := u₀)
    (hu₀ := by
      unfold u₀
      iintro Hu
      ihave H := (ownU_pair _ _) $$ Hu
      icases H with ⟨HP, HX⟩
      imod (fund_all m σ) $$ HX with HG
      imodintro
      isplitl [HP] <;> iassumption)
    (hglob := glob m σ)
    (hA := fun _ _ => rfl) (hpf := fun _ k => k.elim0)
    (X := start m σ) (Y := left m σ) (Z := fun c => ((c : Thread nD τ).loc main_arg0 ↦{fullShare.left} m ((c : Thread nD τ).loc main_arg0)))
    (hX := start_intro m σ ρ) (hin := phi0_intro m σ) (hout := phi1_exit m σ)
    (QY := fun c s => (s.mem ((c : Thread nD τ).loc main_arg0) = m ((c : Thread nD τ).loc main_arg0)
      ∧ ∀ k, (oM k).view.read (Elt F) (s.mem ((c : Thread nD τ).loc main_v1_0)) = och m σ c k)
      ∧ ∀ sm : SemLoc sig, sm.isScoped .tc = false → s.sem ((c.tc : Thread nD τ), sm) = 0)
    (hY := fun c s' => by
      unfold left
      iintro ⟨⟨⟨%g, %hg, Ho⟩, Hu⟩, Hx, HSI⟩
      ihave Hr := (pointsTo_read_all {()} (fun _ => (c : Thread nD τ).loc main_v1_0) (fun _ => g) s' fullShare) $$ [Ho HSI]
      · rw [bigSep_singleton]; isplitl [Ho] <;> iassumption
      icases Hr with ⟨%h1, HSI⟩
      ihave Hr := (pointsTo_read_all {()} (fun _ => (c : Thread nD τ).loc main_arg0) (fun _ => m ((c : Thread nD τ).loc main_arg0)) s' fullShare.left) $$ [Hx HSI]
      · rw [bigSep_singleton]; isplitl [Hx] <;> iassumption
      icases Hr with ⟨%h2, HSI⟩
      have h : (s'.mem.mem ((c : Thread nD τ).loc main_arg0) = m ((c : Thread nD τ).loc main_arg0)
          ∧ ∀ k, (oM k).view.read (Elt F) (s'.mem.mem ((c : Thread nD τ).loc main_v1_0)) = och m σ c k) :=
        ⟨h2 () (Finset.mem_singleton_self _), fun k => by rw [h1 () (Finset.mem_singleton_self _)]; exact hg k⟩
      imod (Pipeline.unscopedSems0_read (X := unscopedSems0 c) (c := c) fupd_intro s') $$ [Hu HSI] with ⟨%h3, HSI⟩
      · isplitl [Hu] <;> iassumption
      imodintro
      isplitr; · ipureintro; exact ⟨h, h3⟩
      iexact HSI)
    (hQ := fun _ h hs => ⟨fun c => ⟨(h c).2.2.1.1, ((h c).1 (0 : Fin 1)).trans ((dats (F := F) m σ 0 c).arrAt_in (0 : Fin 1) rfl _), (h c).2.2.1.2⟩, sem_eq_zero hs fun c => (h c).2.2.2⟩)

end Cert.Exchange

end
-- ==== Proof.Frames.lean ====
/-
# The frames

Under each of the three rotations every device runs to its end, its arguments unchanged and its counters at zero.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

@[expose] public section

noncomputable section

namespace Cert.Exchange

open Idealize.ShloMosaic
open Idealize.ShloMosaic.TcCoe
open Idealize.SL Idealize.SL.Sem

variable {F : FTy → Type} [FloatOps F]

/-! ## What the preconditions say -/

/-- The side conditions of the preconditions' texts hold: of rotation 3, -/
instance pre1_facts : Cert.Pre_roll1_Kernel.Facts := ⟨by decide, by decide, by decide, by decide, by decide⟩
/-- of rotation 2, -/
instance pre2_facts : Cert.Pre_roll2_Kernel.Facts := ⟨by decide, by decide, by decide, by decide, by decide⟩
/-- of rotation 1, -/
instance pre3_facts : Cert.Pre_roll3_Kernel.Facts := ⟨by decide, by decide, by decide, by decide, by decide⟩
/-- and, of the reference's arguments, of rotation 3, -/
instance pre1_facts' : Cert.Pre_roll1_ReferenceIdeal.Facts := ⟨by decide, by decide, by decide, by decide, by decide⟩
/-- of rotation 2 -/
instance pre2_facts' : Cert.Pre_roll2_ReferenceIdeal.Facts := ⟨by decide, by decide, by decide, by decide, by decide⟩
/-- and of rotation 1. -/
instance pre3_facts' : Cert.Pre_roll3_ReferenceIdeal.Facts := ⟨by decide, by decide, by decide, by decide, by decide⟩

/-- The blocks moved `n` places. -/
def roll (n : Fin 4) : Equiv.Perm (Fin 4) := Equiv.addRight n

/-- A conjunction of two truth values that is true has both true. -/
theorem both_of_and {a b : BitVec 1} : a &&& b = 1#1 → a = 1#1 ∧ b = 1#1 := by revert a b; decide
/-- Words that compare equal are equal. -/
theorem eq_of_cmp {a b : BitVec 32} (h : BitVec.ofBool (a == b) = 1#1) : a = b := by
  by_contra hne
  rw [beq_eq_false_iff_ne.mpr hne] at h
  exact absurd h (by decide)

/-- Place `k` of a table of four. -/
def spot (k : Fin 4) : Cert.KernelIdeal.S4.Idx := fun a => ⟨k.val, by
  obtain rfl : a = (0 : Fin 1) := @Subsingleton.elim (Fin 1) _ _ _
  exact k.isLt⟩

/-- A table of four words, each given, is the permutation's. -/
theorem table_eq (t : Cert.KernelIdeal.S4.Idx → BitVec 32) (n : Fin 4)
    (h : ((t (spot 0) = word (roll n) 0 ∧ t (spot 1) = word (roll n) 1) ∧ t (spot 2) = word (roll n) 2) ∧ t (spot 3) = word (roll n) 3) :
    t = fun j => word (roll n) (j 0) := by
  obtain ⟨⟨⟨h0, h1⟩, h2⟩, h3⟩ := h
  funext j
  have e (k : Fin 4) (hk : (j 0 : Fin 4) = k) : j = spot k := funext fun a => by
    obtain rfl : a = (0 : Fin 1) := @Subsingleton.elim (Fin 1) _ _ _
    exact Fin.ext (congrArg Fin.val hk)
  have hj : ∀ k : Fin 4, (j 0 : Fin 4) = k → t j = word (roll n) k := fun k hk => by
    rw [e k hk]; fin_cases k <;> assumption
  exact hj _ rfl

/-- Entry `n` cut out of the table is the table at `n`. -/
theorem cut_eq {α : Type} (t : Cert.KernelIdeal.S4.Idx → α) (n : Fin 4) (off : Fin 1 → Nat) (hoff : off 0 = n.val)
    (h : (⟨1, ![4]⟩ : Shape).Slices off ⟨1, ![1]⟩) (h' : (⟨1, ![1]⟩ : Shape).ShapeCasts ⟨0, ![]⟩) (j : (⟨0, ![]⟩ : Shape).Idx) :
    shapeCast ⟨0, ![]⟩ (extractStridedSlice (s := ⟨1, ![4]⟩) ⟨1, ![1]⟩ off t h) h' j = t (spot n) := by
  unfold shapeCast
  refine extractStridedSlice_apply off t h _ _ fun a => ?_
  obtain rfl : a = (0 : Fin 1) := @Subsingleton.elim (Fin 1) _ _ _
  generalize Shape.reshapeEquiv h' j = i
  have hi : (i 0).val < 1 := (i 0).isLt
  show n.val = off 0 + (i 0).val
  omega

/-- The precondition says the table is that of rotation 3. -/
theorem pre_roll1 (x : FVec F Cert.Pre_roll1_Kernel.S1x4096x2048 .f32) (t : IVec Cert.Pre_roll1_Kernel.S4 32) (h : Cert.Pre_roll1_Kernel.fn (F := F) x t = fun _ => 1#1) :
    t = fun j => word (roll 3) (j 0) := by
  refine table_eq t 3 ?_
  have h0 := both_of_and (congrFun h (fun a => a.elim0))
  have h1 := both_of_and h0.1
  have h2 := both_of_and h1.1
  exact ⟨⟨⟨(cut_eq t 0 ![0] rfl (by decide) (by decide) _).symm.trans (eq_of_cmp h2.1), (cut_eq t 1 ![1] rfl (by decide) (by decide) _).symm.trans (eq_of_cmp h2.2)⟩,
    (cut_eq t 2 ![2] rfl (by decide) (by decide) _).symm.trans (eq_of_cmp h1.2)⟩, (cut_eq t 3 ![3] rfl (by decide) (by decide) _).symm.trans (eq_of_cmp h0.2)⟩

/-- The precondition says the table is that of rotation 2. -/
theorem pre_roll2 (x : FVec F Cert.Pre_roll2_Kernel.S1x4096x2048 .f32) (t : IVec Cert.Pre_roll2_Kernel.S4 32) (h : Cert.Pre_roll2_Kernel.fn (F := F) x t = fun _ => 1#1) :
    t = fun j => word (roll 2) (j 0) := by
  refine table_eq t 2 ?_
  have h0 := both_of_and (congrFun h (fun a => a.elim0))
  have h1 := both_of_and h0.1
  have h2 := both_of_and h1.1
  exact ⟨⟨⟨(cut_eq t 0 ![0] rfl (by decide) (by decide) _).symm.trans (eq_of_cmp h2.1), (cut_eq t 1 ![1] rfl (by decide) (by decide) _).symm.trans (eq_of_cmp h2.2)⟩,
    (cut_eq t 2 ![2] rfl (by decide) (by decide) _).symm.trans (eq_of_cmp h1.2)⟩, (cut_eq t 3 ![3] rfl (by decide) (by decide) _).symm.trans (eq_of_cmp h0.2)⟩

/-- The precondition says the table is that of rotation 1. -/
theorem pre_roll3 (x : FVec F Cert.Pre_roll3_Kernel.S1x4096x2048 .f32) (t : IVec Cert.Pre_roll3_Kernel.S4 32) (h : Cert.Pre_roll3_Kernel.fn (F := F) x t = fun _ => 1#1) :
    t = fun j => word (roll 1) (j 0) := by
  refine table_eq t 1 ?_
  have h0 := both_of_and (congrFun h (fun a => a.elim0))
  have h1 := both_of_and h0.1
  have h2 := both_of_and h1.1
  exact ⟨⟨⟨(cut_eq t 0 ![0] rfl (by decide) (by decide) _).symm.trans (eq_of_cmp h2.1), (cut_eq t 1 ![1] rfl (by decide) (by decide) _).symm.trans (eq_of_cmp h2.2)⟩,
    (cut_eq t 2 ![2] rfl (by decide) (by decide) _).symm.trans (eq_of_cmp h1.2)⟩, (cut_eq t 3 ![3] rfl (by decide) (by decide) _).symm.trans (eq_of_cmp h0.2)⟩

/-! ## The kernel's frames -/

/-- The body as printed and the body read over exact values have the same text. -/
theorem body_table_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- The kernel as printed and the kernel read over exact values have the same text, so the same table of bodies. -/
theorem table_same : Cert.Kernel.defs (F := Bits) = Cert.KernelIdeal.defs (F := Bits) := by
  unfold Cert.Kernel.defs Cert.KernelIdeal.defs
  rw [body_table_same]
  rfl

/-- The kernel over words runs to its end where the table is that of rotation 3. -/
theorem frame_words1 : Cert.quiescent_Kernel := by
  intro m g hpre
  rw [table_same]
  exact (θ_run (Cert.KernelIdeal.defs (F := Bits)) _ _).mono (fun _ h => ⟨fun c => ⟨(h.1 c).1, (h.1 c).2.1⟩, h.2⟩)
    (run_main (F := Bits) m (roll 3) g (fun c => pre_roll1 _ _ (hpre c)))

/-- The kernel over exact values runs to its end where the table is that of rotation 3. -/
theorem frame_exact1 : Cert.quiescent_KernelIdeal := fun m g hpre =>
  (θ_run Cert.KernelIdeal.defs _ _).mono (fun _ h => ⟨fun c => ⟨(h.1 c).1, (h.1 c).2.1⟩, h.2⟩)
    (run_main (F := Ideal) m (roll 3) g (fun c => pre_roll1 _ _ (hpre c)))

/-- The kernel over words runs to its end where the table is that of rotation 2. -/
theorem frame_words2 : Cert.quiescent_Kernel_pre_roll2_Kernel := by
  intro m g hpre
  rw [table_same]
  exact (θ_run (Cert.KernelIdeal.defs (F := Bits)) _ _).mono (fun _ h => ⟨fun c => ⟨(h.1 c).1, (h.1 c).2.1⟩, h.2⟩)
    (run_main (F := Bits) m (roll 2) g (fun c => pre_roll2 _ _ (hpre c)))

/-- The kernel over exact values runs to its end where the table is that of rotation 2. -/
theorem frame_exact2 : Cert.quiescent_KernelIdeal_pre_roll2_Kernel := fun m g hpre =>
  (θ_run Cert.KernelIdeal.defs _ _).mono (fun _ h => ⟨fun c => ⟨(h.1 c).1, (h.1 c).2.1⟩, h.2⟩)
    (run_main (F := Ideal) m (roll 2) g (fun c => pre_roll2 _ _ (hpre c)))

/-- The kernel over words runs to its end where the table is that of rotation 1. -/
theorem frame_words3 : Cert.quiescent_Kernel_pre_roll3_Kernel := by
  intro m g hpre
  rw [table_same]
  exact (θ_run (Cert.KernelIdeal.defs (F := Bits)) _ _).mono (fun _ h => ⟨fun c => ⟨(h.1 c).1, (h.1 c).2.1⟩, h.2⟩)
    (run_main (F := Bits) m (roll 1) g (fun c => pre_roll3 _ _ (hpre c)))

/-- The kernel over exact values runs to its end where the table is that of rotation 1. -/
theorem frame_exact3 : Cert.quiescent_KernelIdeal_pre_roll3_Kernel := fun m g hpre =>
  (θ_run Cert.KernelIdeal.defs _ _).mono (fun _ h => ⟨fun c => ⟨(h.1 c).1, (h.1 c).2.1⟩, h.2⟩)
    (run_main (F := Ideal) m (roll 1) g (fun c => pre_roll3 _ _ (hpre c)))

/-! ## The reference's frames -/

/-- The reference declares no counter: its run leaves its arguments and every counter as they were. -/
theorem frame_ref : Cert.quiescent_ReferenceIdeal := fun m g _ =>
  (θ_run Cert.ReferenceIdeal.defs _ _).mono (fun r h => ⟨fun c => (h c).2, sem_eq_zero_of_no_sems rfl _⟩)
    (Cert.ReferenceIdeal.Value.run (F := Ideal) m g)

/-- The reference needs no precondition, so it ends under that of rotation 3, -/
theorem frame_ref1 : Cert.quiescent_ReferenceIdeal_pre_roll1_ReferenceIdeal := fun m g _ => frame_ref m g trivial

/-- under that of rotation 2 -/
theorem frame_ref2 : Cert.quiescent_ReferenceIdeal_pre_roll2_ReferenceIdeal := fun m g _ => frame_ref m g trivial

/-- and under that of rotation 1. -/
theorem frame_ref3 : Cert.quiescent_ReferenceIdeal_pre_roll3_ReferenceIdeal := fun m g _ => frame_ref m g trivial

end Cert.Exchange

end
-- ==== Proof.Quantize.lean ====
/-
# One row quantised and restored, over exact values

An entry of a row `y` becomes `code y j`, the integer nearest `y j` times 127 over the row's scale, held in -127 … 127;
it is restored as that integer times the scale over 127. An 8-bit integer holds every such code, so what is restored
from the integer that travels is what is restored from the code itself.
-/
module

public import proofs.«01_k».proof.Proof.Protocol
public import Idealize.ShloMosaic.PureOps.Ideal
public import Idealize.ShloMosaic.PureOps.Ideal.Laws
public import Idealize.ShloMosaic.Lib.Pointwise
public import Idealize.ShloMosaic.Lib.KernelVsHost

@[expose] public section

noncomputable section

namespace Cert.Exchange

open Idealize.ShloMosaic
open Idealize.ShloMosaic.TcCoe
open Cert.KernelIdeal Cert.KernelIdeal.Gen

/-- The bounds of the codes, the least scale, and the 127th as the program writes it. -/
def hi127 : EReal := Ideal.ofBits .f32 0x42FE0000#32
/-- -127; -/
def lo127 : EReal := Ideal.ofBits .f32 0xC2FE0000#32
/-- the least scale; -/
def least : EReal := Ideal.ofBits .f32 0x1E3CE508#32
/-- a 127th; -/
def part127 : EReal := Ideal.ofBits .f32 0x3C010204#32
/-- and the start of the maximum. -/
def floor0 : EReal := Ideal.ofBits .f32 0xFF800000#32

/-- The first is the real 127, -/
theorem hi127_eq : hi127 = ((127 : ℝ) : EReal) := by unfold hi127; simp [Ideal.ofBits, Ideal.ieee]; rw [← EReal.coe_mul]; norm_num
/-- the second the real -127. -/
theorem lo127_eq : lo127 = ((-127 : ℝ) : EReal) := by unfold lo127; simp [Ideal.ofBits, Ideal.ieee]; rw [← EReal.coe_mul]; norm_num

/-- A row's scale: its greatest magnitude, never under the least scale. -/
def rowScale (y : Fin 2048 → EReal) : EReal := max ((Finset.univ : Finset (Fin 2048)).fold max floor0 fun k => max (y k) (-y k)) least
/-- An entry's code. -/
def code (y : Fin 2048 → EReal) (j : Fin 2048) : EReal := min hi127 (max lo127 (Ideal.liftRound Ideal.roundHalfEven (y j * Ideal.div hi127 (rowScale y))))
/-- An entry restored. -/
def restored (y : Fin 2048 → EReal) (j : Fin 2048) : EReal := code y j * (rowScale y * part127)

/-- A rounded value held in -127 … 127 is a whole number in that range. -/
theorem clamp_whole (z : EReal) : ∃ n : ℤ, -127 ≤ n ∧ n ≤ 127 ∧ min hi127 (max lo127 (Ideal.liftRound Ideal.roundHalfEven z)) = ((n : ℝ) : EReal) := by
  rw [hi127_eq, lo127_eq]
  induction z with
  | bot =>
    refine ⟨-127, by norm_num, by norm_num, ?_⟩
    show min ((127 : ℝ) : EReal) (max ((-127 : ℝ) : EReal) ⊥) = _
    rw [max_bot_right, min_eq_right (EReal.coe_le_coe_iff.mpr (by norm_num))]
    norm_num
  | top =>
    refine ⟨127, by norm_num, by norm_num, ?_⟩
    show min ((127 : ℝ) : EReal) (max ((-127 : ℝ) : EReal) ⊤) = _
    rw [max_top_right, min_top_right]
    norm_num
  | coe r =>
    refine ⟨min 127 (max (-127) (Ideal.roundHalfEven r)), by omega, by omega, ?_⟩
    show min ((127 : ℝ) : EReal) (max ((-127 : ℝ) : EReal) ((Ideal.roundHalfEven r : ℝ) : EReal)) = _
    push_cast
    rfl

/-- The 8-bit integer of a whole number in that range is that number. -/
theorem byte_whole (n : ℤ) (h1 : -127 ≤ n) (h2 : n ≤ 127) : (Ideal.fptosi 8 ((n : ℝ) : EReal)).toInt = n := by
  unfold Ideal.fptosi
  rw [Ideal.toIntClamped_coe, Int.floor_intCast, Int.ceil_intCast, ite_self, BitVec.toInt_ofInt]
  have : max (-((2 ^ (8 - 1) : Nat) : ℤ)) (min (((2 ^ (8 - 1) : Nat) : ℤ) - 1) n) = n := by norm_num; omega
  rw [this]
  rw [Int.bmod_eq_of_le] <;> norm_num <;> omega

/-- The integer that travels is the code. -/
theorem byte_code (y : Fin 2048 → EReal) (j : Fin 2048) : (((Ideal.fptosi 8 (code y j)).toInt : ℝ) : EReal) = code y j := by
  obtain ⟨n, h1, h2, h⟩ := clamp_whole (y j * Ideal.div hi127 (rowScale y))
  unfold code
  rw [h, byte_whole n h1 h2]

/-! ## A chunk of the kernel -/

/-- A chunk given its leading axis and rid of it is the chunk. -/
theorem chunk_of_up (v : Vec Ideal S512x2048 .f32) : k0_pay12 (F := Ideal) (up (F := Ideal) (e := .f32) v) = v :=
  shapeCast_shapeCast v _ _

/-- A column of scales over the row. -/
theorem spread (w : FVec Ideal S512x1 .f32) (i : Fin 512) (j : Fin 2048) :
    broadcastTo S512x2048 w broadcasts_S512x1_S512x2048 (ix2 i j) = w (ix2 i 0) := by
  pointwise

/-- The column of scales from the row that travels. -/
theorem upright (w : FVec Ideal S1x512 .f32) (i : Fin 512) (z : Fin 1) :
    transpose S512x1 [1, 0] w transposes_S1x512_p1_0_S512x1 (ix2 i z) = w (ix2 z i) := by
  pointwise
  exact congrArg (fun z => w (ix2 z i)) (Subsingleton.elim _ _)

/-- The row of scales from the column. -/
theorem lying (w : FVec Ideal S512x1 .f32) (i : Fin 512) (z : Fin 1) :
    transpose S1x512 [1, 0] w transposes_S512x1_p1_0_S1x512 (ix2 z i) = w (ix2 i z) := by
  pointwise
  exact congrArg (fun z => w (ix2 i z)) (Subsingleton.elim _ _)

/-- A column made of a vector, at an index. -/
theorem column (w : FVec Ideal S512 .f32) (i : Fin 512) (z : Fin 1) :
    (shapeCast S512x1 w shapeCasts_S512_S512x1) (ix2 i z) = w (ix1 i) := by
  pointwise

/-- The greatest magnitude of row `i`. -/
theorem row_max (v : FVec Ideal S512x2048 .f32) (i : Fin 512) :
    (multiReduction (φ := .f32) FKind.maximumf [1] S512 (absf v) (4286578688#32) reduces_S512x2048_S512 (.inl rfl) rfl) (ix1 i) = (Finset.univ : Finset (Fin 2048)).fold max floor0 fun k => max (v (ix2 i k)) (-v (ix2 i k)) := by
  pointwise
  rfl

/-- The scale of a row from its greatest magnitude, at an index. -/
theorem least_scale (w : FVec Ideal S512 .f32) (i : Fin 512) (z : Fin 1) :
    maximumf (shapeCast S512x1 w shapeCasts_S512_S512x1) (broadcast S512x1 (Scalar.ofBits (F := Ideal) .f32 0x1E3CE508#32)) (ix2 i z) = max (w (ix1 i)) least :=
  congrArg (fun y => max y least) (column w i z)

/-- A chunk over a column of scales, rounded and held in range. -/
theorem bytes_at (v : FVec Ideal S512x2048 .f32) (w : FVec Ideal S512x1 .f32) (i : Fin 512) (j : Fin 2048) :
    fptosi 8 (minimumf (broadcast S512x2048 (Scalar.ofBits .f32 0x42FE0000#32)) (maximumf (broadcast S512x2048 (Scalar.ofBits .f32 0xC2FE0000#32))
      (roundeven (mulf v (broadcastTo S512x2048 (divf (broadcast S512x1 (Scalar.ofBits .f32 0x42FE0000#32)) w) broadcasts_S512x1_S512x2048))))) (ix2 i j)
      = Ideal.fptosi 8 (min hi127 (max lo127 (Ideal.liftRound Ideal.roundHalfEven (v (ix2 i j) * Ideal.div hi127 (w (ix2 i 0)))))) := by
  show Ideal.fptosi 8 (min hi127 (max lo127 (Ideal.liftRound Ideal.roundHalfEven (v (ix2 i j) * broadcastTo S512x2048 (divf (broadcast S512x1 (Scalar.ofBits .f32 0x42FE0000#32)) w) broadcasts_S512x1_S512x2048 (ix2 i j))))) = _
  rw [spread]
  rfl

/-- Integers times a column of scales. -/
theorem product_at (q : IVec S512x2048 8) (t : FVec Ideal S512x1 .f32) (i : Fin 512) (j : Fin 2048) :
    (truncf .bf16 (mulf (sitofp .f32 q) (broadcastTo S512x2048 (mulf t (broadcast S512x1 (Scalar.ofBits .f32 0x3C010204#32))) broadcasts_S512x1_S512x2048)) bitsLt_bf16_f32 : FVec Ideal S512x2048 .bf16) (ix2 i j)
      = (((q (ix2 i j)).toInt : ℝ) : EReal) * (t (ix2 i 0) * part127) := by
  show (((q (ix2 i j)).toInt : ℝ) : EReal) * broadcastTo S512x2048 (mulf t (broadcast S512x1 (Scalar.ofBits .f32 0x3C010204#32))) broadcasts_S512x1_S512x2048 (ix2 i j) = _
  rw [spread]
  rfl

/-- The scale of row `i` of a chunk, as the kernel finds it. -/
theorem scale_row (v : Vec Ideal S512x2048 .f32) (i : Fin 512) (z : Fin 1) :
    k0_pay13 (F := Ideal) (up (F := Ideal) (e := .f32) v) (ix2 i z) = rowScale fun k => v (ix2 i k) := by
  unfold k0_pay13
  rw [chunk_of_up]
  dsimp only
  unfold rowScale
  rw [← row_max]
  exact least_scale _ i z

/-- Entry (`i`, `j`) of a chunk's integers. -/
theorem quant_at (v : Vec Ideal S512x2048 .f32) (i : Fin 512) (j : Fin 2048) :
    quant (F := Ideal) v (ix2 i j) = Ideal.fptosi 8 (code (fun k => v (ix2 i k)) j) := by
  unfold quant k0_pay14
  unfold dn
  rw [chunk_of_up]
  dsimp only
  rw [shapeCast_shapeCast]
  unfold code
  rw [← scale_row v i 0]
  exact bytes_at v _ i j

/-- Entry `i` of a chunk's scales. -/
theorem scal_at (v : Vec Ideal S512x2048 .f32) (z : Fin 1) (i : Fin 512) :
    scal (F := Ideal) v (ix2 z i) = rowScale fun k => v (ix2 i k) := by
  unfold scal k0_pay16 k0_pay15 dns
  dsimp only
  rw [shapeCast_shapeCast, ← scale_row v i z]
  exact lying _ i z

/-- What a chunk gives back, entry by entry. -/
theorem chunk_restored (v : Vec Ideal S512x2048 .f32) (i : Fin 512) (j : Fin 2048) :
    deq (F := Ideal) (quant v) (scal v) (ix2 i j) = restored (fun k => v (ix2 i k)) j := by
  unfold restored
  rw [← byte_code, ← quant_at, ← scal_at v 0]
  unfold deq k0_pay40 dn up ups
  dsimp only
  rw [shapeCast_shapeCast, shapeCast_shapeCast, shapeCast_shapeCast, ← upright (scal v) i 0]
  exact product_at _ _ i j

end Cert.Exchange

end
-- ==== Proof.Reference.lean ====
/-
# The reference, entry by entry, over exact values

The reference takes the blocks in the order that sorts the table, then quantises and restores every row. Entry
(`b`, `i`, `j`) of its result is entry `j` restored of row `i` of the block that the table sends to `b`.
-/
module

public import proofs.«01_k».proof.Proof.Quantize
public import proofs.«01_k».proof.Proof.Frames

@[expose] public section

noncomputable section

namespace Cert.Exchange.Whole

open Idealize.ShloMosaic
open Idealize.ShloMosaic.TcCoe
open Cert.ReferenceIdeal Cert.ReferenceIdeal.Gen
open Cert.Exchange (word roll hi127 lo127 least part127 floor0 rowScale code restored)

/-! ## The order that sorts the table -/

/-- Where each block comes from. -/
abbrev order (t : IVec S4 32) : IVec S4 32 := (Host.sort2 S4 0 comparator_i32_i32_d0 t (iotaInDim S4 32 0)).2

/-- The order that sorts a rotation's table is its inverse. -/
theorem order_roll : ∀ n k : Fin 4, order (fun j => word (roll n) (j 0)) (ix1 k) = word (roll n).symm k := by decide

/-- The positions as the blocks are taken from them, one to a row: a negative position counts from the end. -/
abbrev places (o : IVec S4 32) : IVec S4x1 32 :=
  broadcastInDim S4x1 ![0] bcast_S4_S4x1_0 (select (cmpi .slt o (broadcastInDim S4 ![] bcast_S_S4 (constantI S_ 32 0#32)))
    (addi o (broadcastInDim S4 ![] bcast_S_S4 (constantI S_ 32 4#32))) o)

/-- The places from which the blocks are taken are those of the inverse: no place is below zero, so none is moved. -/
theorem places_roll (n k : Fin 4) (z : Fin 1) : places (order fun j => word (roll n) (j 0)) (ix2 k z) = word (roll n).symm k := by
  have h := order_roll n k
  revert h
  generalize (order fun j => word (roll n) (j 0)) = o
  intro h
  unfold places
  pointwise
  rw [h]
  clear h o
  revert n k
  decide

/-- The blocks in that order. -/
abbrev taken (x : FVec Ideal S4x4096x2048 .f32) (o : IVec S4x1 32) : FVec Ideal S4x4096x2048 .f32 :=
  Host.gather gather_S4x4096x2048_S4x1_S4x4096x2048_12_0_n_n_0_1_140962048 x o

/-- Block `b` of what is taken is the block at the place that `o` names for `b`. -/
theorem taken_at (x : FVec Ideal S4x4096x2048 .f32) (o : IVec S4x1 32) (b p : Fin 4) (h : ∀ z, o (ix2 b z) = BitVec.ofNat 32 p.val)
    (i : Fin 4096) (j : Fin 2048) : taken x o (ix3 b i j) = x (ix3 p i j) := by
  unfold taken Host.gather
  refine congrArg x (funext fun a => Fin.ext ?_)
  match a with
  | 0 =>
    have e : ∀ c : S4x1.Idx, (c 0).val = b.val → min (o c).toInt.toNat (4 - 1) = p.val := fun c hc => by
      have hc' : c = (ix2 b (c 1) : S4x1.Idx) := by
        funext q
        match q with
        | 0 => exact Fin.ext hc
        | 1 => rfl
      have hp : o c = BitVec.ofNat 32 p.val := (congrArg o hc').trans (h _)
      rw [hp]
      clear hp hc' hc h
      revert p; decide
    exact e _ rfl
  | 1 => show 0 + 0 + i.val = i.val; omega
  | 2 => show 0 + 0 + j.val = j.val; omega

/-! ## The rows quantised and restored -/

/-- A value for each row, given a last axis, at an index; -/
theorem over_rows (u : FVec Ideal S4x4096 .f32) (b : Fin 4) (i : Fin 4096) (z : Fin 1) :
    broadcastInDim S4x4096x1 ![0, 1] bcast_S4x4096_S4x4096x1_0_1 u (ix3 b i z) = u (ix2 b i) := by
  pointwise

/-- a value for each row over the row's entries, at an index; -/
theorem over_entries (w : FVec Ideal S4x4096x1 .f32) (b : Fin 4) (i : Fin 4096) (j : Fin 2048) :
    broadcastInDim S4x4096x2048 ![0, 1, 2] bcast_S4x4096x1_S4x4096x2048_0_1_2 w (ix3 b i j) = w (ix3 b i 0) := by
  pointwise

/-- a constant for every row; -/
theorem flat_rows (v : BitVec 32) (b : Fin 4) (i : Fin 4096) (z : Fin 1) :
    broadcastInDim S4x4096x1 ![] bcast_S_S4x4096x1 (constant (F := Ideal) S_ .f32 v) (ix3 b i z) = Ideal.ofBits .f32 v := by
  pointwise

/-- a constant for every entry. -/
theorem flat_entries (v : BitVec 32) (b : Fin 4) (i : Fin 4096) (j : Fin 2048) :
    broadcastInDim S4x4096x2048 ![] bcast_S_S4x4096x2048 (id (constant (F := Ideal) S_ .f32 v)) (ix3 b i j) = Ideal.ofBits .f32 v := by
  rw [id_eq]
  pointwise

/-- The operations at an index: the greater, -/
theorem greater_at {s : Shape} (a w : FVec Ideal s .f32) (i : s.Idx) : maximumf a w i = max (a i) (w i) := rfl

/-- the lesser, -/
theorem lesser_at {s : Shape} (a w : FVec Ideal s .f32) (i : s.Idx) : minimumf a w i = min (a i) (w i) := rfl

/-- the product, -/
theorem product_at {s : Shape} (a w : FVec Ideal s .f32) (i : s.Idx) : mulf a w i = a i * w i := rfl

/-- the quotient, -/
theorem quotient_at {s : Shape} (a w : FVec Ideal s .f32) (i : s.Idx) : Host.divf a w i = Ideal.div (a i) (w i) := rfl

/-- rounding to a whole number, -/
theorem whole_at {s : Shape} (a : FVec Ideal s .f32) (i : s.Idx) : Host.roundeven a i = Ideal.liftRound Ideal.roundHalfEven (a i) := rfl

/-- and the change of format, which over exact values changes nothing. -/
theorem shorter_at {s : Shape} (a : FVec Ideal s .f32) (i : s.Idx) : truncf .bf16 a bitsLt_bf16_f32 i = a i := rfl

/-- The greatest magnitude of each row. -/
abbrev rowMax (y : FVec Ideal S4x4096x2048 .f32) : FVec Ideal S4x4096 .f32 :=
  Host.reduce FloatOps.maximumf (Host.absf y) (constant S_ .f32 0xFF800000#32) reducesTo_S4x4096x2048_S4x4096_d2 h_S_

/-- The greatest magnitude of row (`b`, `i`). -/
theorem rowMax_at (y : FVec Ideal S4x4096x2048 .f32) (b : Fin 4) (i : Fin 4096) :
    rowMax y (ix2 b i) = (Finset.univ : Finset (Fin 2048)).fold max floor0 fun k => max (y (ix3 b i k)) (-y (ix3 b i k)) := by
  unfold rowMax
  pointwise
  rfl

/-- The scales. -/
abbrev scales (y : FVec Ideal S4x4096x2048 .f32) : FVec Ideal S4x4096x1 .f32 :=
  maximumf (broadcastInDim S4x4096x1 ![0, 1] bcast_S4x4096_S4x4096x1_0_1 (rowMax y)) (broadcastInDim S4x4096x1 ![] bcast_S_S4x4096x1 (constant S_ .f32 0x1E3CE508#32))

/-- Its scale. -/
theorem scales_at (y : FVec Ideal S4x4096x2048 .f32) (b : Fin 4) (i : Fin 4096) (z : Fin 1) :
    scales y (ix3 b i z) = rowScale fun k => y (ix3 b i k) := by
  have e := (over_rows (rowMax y) b i z).trans (rowMax_at y b i)
  exact (greater_at _ _ _).trans (congrArg₂ max e (flat_rows _ b i z))

/-- What the reference makes of the blocks once they are in order. -/
abbrev made (y : FVec Ideal S4x4096x2048 .f32) : FVec Ideal S4x4096x2048 .bf16 :=
  truncf .bf16 (mulf (minimumf (broadcastInDim S4x4096x2048 ![] bcast_S_S4x4096x2048 (id (constant S_ .f32 0x42FE0000#32)))
      (maximumf (broadcastInDim S4x4096x2048 ![] bcast_S_S4x4096x2048 (id (constant S_ .f32 0xC2FE0000#32)))
        (Host.roundeven (mulf y (broadcastInDim S4x4096x2048 ![0, 1, 2] bcast_S4x4096x1_S4x4096x2048_0_1_2
          (Host.divf (broadcastInDim S4x4096x1 ![] bcast_S_S4x4096x1 (constant S_ .f32 0x42FE0000#32)) (scales y)))))))
    (broadcastInDim S4x4096x2048 ![0, 1, 2] bcast_S4x4096x1_S4x4096x2048_0_1_2
      (mulf (scales y) (broadcastInDim S4x4096x1 ![] bcast_S_S4x4096x1 (constant S_ .f32 0x3C010204#32))))) bitsLt_bf16_f32

/-- Entry (`b`, `i`, `j`) of what the reference makes: that of the row, quantised and restored. -/
theorem made_at (y : FVec Ideal S4x4096x2048 .f32) (b : Fin 4) (i : Fin 4096) (j : Fin 2048) :
    made y (ix3 b i j) = restored (fun k => y (ix3 b i k)) j := by
  have hs := scales_at y b i 0
  have hq : broadcastInDim S4x4096x2048 ![0, 1, 2] bcast_S4x4096x1_S4x4096x2048_0_1_2
      (Host.divf (broadcastInDim S4x4096x1 ![] bcast_S_S4x4096x1 (constant S_ .f32 0x42FE0000#32)) (scales y)) (ix3 b i j)
      = Ideal.div hi127 (rowScale fun k => y (ix3 b i k)) :=
    (over_entries _ b i j).trans ((quotient_at _ _ _).trans (congrArg₂ Ideal.div (flat_rows _ b i 0) hs))
  have hm : broadcastInDim S4x4096x2048 ![0, 1, 2] bcast_S4x4096x1_S4x4096x2048_0_1_2
      (mulf (scales y) (broadcastInDim S4x4096x1 ![] bcast_S_S4x4096x1 (constant S_ .f32 0x3C010204#32))) (ix3 b i j)
      = (rowScale fun k => y (ix3 b i k)) * part127 :=
    (over_entries _ b i j).trans ((product_at _ _ _).trans (congrArg₂ (· * ·) hs (flat_rows _ b i 0)))
  unfold made
  rw [shorter_at, product_at, lesser_at, greater_at, whole_at, product_at, flat_entries, flat_entries, hq, hm]
  unfold restored code
  rfl

/-- The reference's result of the arrays `x` and `t`. -/
def result (x : FVec Ideal S4x4096x2048 .f32) (t : IVec S4 32) : FVec Ideal S4x4096x2048 .bf16 := made (taken x (places (order t)))

/-- Entry (`b`, `i`, `j`) of the reference's result. -/
theorem result_at (n : Fin 4) (x : FVec Ideal S4x4096x2048 .f32) (b : Fin 4) (i : Fin 4096) (j : Fin 2048) :
    result x (fun j => word (roll n) (j 0)) (ix3 b i j) = restored (fun k => x (ix3 ((roll n).symm b) i k)) j := by
  unfold result
  rw [made_at]
  exact congrArg (restored · j) (funext fun k => taken_at x _ b _ (fun z => places_roll n b z) i k)

end Cert.Exchange.Whole

end
-- ==== Proof.Value.lean ====
/-
# The kernel's result is the reference's, over exact values

Each device holds one block of the array: the block its place in its group of four names. Its result's chunks are
what the device before it sent, restored. Row by row these are the rows of the block that the reference puts in the
device's place, quantised and restored, which is what the reference makes of them.
-/
module

public import proofs.«01_k».proof.Proof.Reference

@[expose] public section

noncomputable section

namespace Cert.Exchange

open Idealize.ShloMosaic
open Idealize.ShloMosaic.TcCoe
open Cert.KernelIdeal Cert.KernelIdeal.Gen
open Cert.Exchange.Whole (result result_at)

/-! ## A chunk of a device's array, entry by entry -/

/-- Row `i` of chunk `k`, as a row of the block. -/
def rowAt (k : Fin 8) (i : Fin 512) : Fin 4096 := ⟨512 * k.val + i.val, by omega⟩

/-- Every row is in one of the chunks. -/
theorem every_row (r : Fin 4096) : ∃ (k : Fin 8) (i : Fin 512), r = rowAt k i :=
  ⟨⟨r.val / 512, by omega⟩, ⟨r.val % 512, Nat.mod_lt _ (by decide)⟩, Fin.ext (Nat.div_add_mod _ 512).symm⟩

/-- A slab of one block read as a matrix. -/
theorem flat_slab {α : Type} (w : S1x512x2048.Idx → α) (h : S1x512x2048.ShapeCasts S512x2048) (i : Fin 512) (j : Fin 2048) :
    shapeCast S512x2048 w h (ix2 i j) = w (ix3 0 i j) := by
  pointwise

/-- Row `i` of chunk `k`'s rectangle is that row of the block. -/
theorem rows_idx (k : Fin 8) (i : Fin 512) (j : Fin 2048) : (rowsR k).idx (ix3 (0 : Fin 1) i j) = (ix3 (0 : Fin 1) (rowAt k i) j : S1x4096x2048.Idx) := by
  funext q
  apply Fin.ext
  match q with
  | 0 => rfl
  | 1 => show 512 * k.val + 1 * i.val = 512 * k.val + i.val; omega
  | 2 => show 0 + 1 * j.val = j.val; omega

/-- Entry (`i`, `j`) of chunk `k` of a device's array. -/
theorem xM_at (f : S1x4096x2048.Idx → Elt Ideal .f32) (k : Fin 8) (i : Fin 512) (j : Fin 2048) :
    (xM k).view.read (Elt Ideal) f (ix2 i j) = f (ix3 0 (rowAt k i) j) := by
  refine (congrFun (Memref.read_squeeze_slice (Memref.whole main_arg0) (rowsR k) (fun _ => rfl) squeezes_S1x512x2048_S512x2048
    (by show S1x512x2048.ShapeCasts S512x2048; decide) f) (ix2 i j)).trans ?_
  refine (flat_slab (α := Elt Ideal .f32) _ _ i j).trans ?_
  exact congrArg f (rows_idx k i j)

/-- Entry (`i`, `j`) of chunk `k` of a device's result. -/
theorem oM_at (f : S1x4096x2048.Idx → Elt Ideal .bf16) (k : Fin 8) (i : Fin 512) (j : Fin 2048) :
    (oM k).view.read (Elt Ideal) f (ix2 i j) = f (ix3 0 (rowAt k i) j) := by
  refine (congrFun (Memref.read_squeeze_slice (Memref.whole main_v1_0) (rowsR k) (fun _ => rfl) squeezes_S1x512x2048_S512x2048
    (by show S1x512x2048.ShapeCasts S512x2048; decide) f) (ix2 i j)).trans ?_
  refine (flat_slab (α := Elt Ideal .bf16) _ _ i j).trans ?_
  exact congrArg f (rows_idx k i j)

/-! ## The block a device holds -/

/-- A device's place in its group. -/
def place (c : Dev nD) : Fin 4 := ⟨c.val % 4, Nat.mod_lt _ (by decide)⟩

/-- The next device's place is the one that the permutation names. -/
theorem place_nxt (σ : Equiv.Perm (Fin 4)) (c : Dev nD) : place (nxt σ c) = σ (place c) := by
  apply Fin.ext
  show (4 * (c.val / 4) + (σ (place c)).val) % 4 = (σ (place c)).val
  have := (σ (place c)).isLt
  omega

/-- The part of the whole array `v` that device `c` holds. -/
abbrev held {α : Type} (c : Dev nD) (v : Shape.Idx ⟨3, ![4, 4096, 2048]⟩ → α) : Shape.Idx ⟨3, ![1, 4096, 2048]⟩ → α :=
  Layout.blockN ⟨3, ![1, 4096, 2048]⟩ ⟨3, ![4, 4096, 2048]⟩ (Layout.meshBlock [2, 4, 4] ![[2], [], []] c) v

/-- Row `r` of a device's part is row `r` of the block that its place names. -/
theorem held_at {α : Type} (c : Dev nD) (v : Shape.Idx ⟨3, ![4, 4096, 2048]⟩ → α) (r : Fin 4096) (j : Fin 2048) :
    held c v (ix3 (0 : Fin 1) r j) = v (ix3 (place c) r j) := by
  refine congrArg v (funext fun q => Fin.ext ?_)
  match q with
  | 0 =>
    show (c.val / 1 % 4 * 1 + 0) * 1 + 0 = c.val % 4
    omega
  | 1 => show 0 * 4096 + r.val = r.val; omega
  | 2 => show 0 * 2048 + j.val = j.val; omega

/-- What a device's result holds once every chunk has arrived, from arrays that are parts of `x`. -/
theorem result_part (n : Fin 4) (m : (ℓ : Loc nD τ sig) → Buf (Elt Ideal) ℓ) (x : FVec Ideal Cert.ReferenceIdeal.S4x4096x2048 .f32)
    (hx : ∀ c : Dev nD, m ((c : Thread nD τ).loc main_arg0) = held c x) (c : Dev nD)
    (y : S1x4096x2048.Idx → Elt Ideal .bf16) (hy : ∀ k : Fin 8, (oM k).view.read (Elt Ideal) y = och m (roll n) c k) :
    y = held c (result x (fun j => word (roll n) (j 0))) := by
  have key : ∀ (k : Fin 8) (i : Fin 512) (j : Fin 2048), y (ix3 0 (rowAt k i) j) = restored (fun l => x (ix3 ((roll n).symm (place c)) (rowAt k i) l)) j := by
    intro k i j
    rw [← oM_at y k i j, hy k]
    refine (chunk_restored (xch m (prv (roll n) c) k) i j).trans ?_
    refine congrArg (restored · j) (funext fun l => ?_)
    refine (xM_at _ k i l).trans ?_
    refine (congrFun (hx (prv (roll n) c)) _).trans ?_
    refine (held_at _ x _ l).trans ?_
    rw [place_nxt]
  funext p
  obtain ⟨r, j, rfl⟩ : ∃ (r : Fin 4096) (j : Fin 2048), p = (ix3 (0 : Fin 1) r j : S1x4096x2048.Idx) := by
    refine ⟨p 1, p 2, funext fun q => ?_⟩
    match q with
    | 0 => exact @Subsingleton.elim (Fin 1) _ _ _
    | 1 => rfl
    | 2 => rfl
  obtain ⟨k, i, rfl⟩ := every_row r
  exact (key k i j).trans ((held_at c _ _ j).trans (result_at n x (place c) _ j)).symm

/-! ## The claims -/

/-- Both run, and the kernel's results are the parts of the reference's, where the table is that of rotation `n`. -/
theorem both (n : Fin 4) (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ) (g' : Dev Cert.ReferenceIdeal.nD → PrngReg)
    (ht : ∀ c : Dev nD, m ((c.tc : Thread nD τ).loc main_arg1) = fun j => word (roll n) (j 0))
    (hx : ∀ c : Dev nD, m ((c.tc : Thread nD τ).loc main_arg0)
        = held c (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)) :
    ∃ v : Buf (Elt Ideal) (((0 : Dev Cert.ReferenceIdeal.nD).tc : Thread Cert.ReferenceIdeal.nD Cert.ReferenceIdeal.τ).loc Cert.ReferenceIdeal.main_v23),
      θ_run (defs (F := Ideal)) (onTc (τ := τ) (main (F := Ideal))) ⟨m, fun _ => 0, g⟩ (fun r => ∀ c : Dev nD,
          r.2.mem ((c.tc : Thread nD τ).loc main_v1_0) = held c v
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v
          ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1)
            = m' (((0 : Dev Cert.ReferenceIdeal.nD).tc : Thread Cert.ReferenceIdeal.nD Cert.ReferenceIdeal.τ).loc Cert.ReferenceIdeal.main_arg1)) := by
  have ht' : m' (((0 : Dev Cert.ReferenceIdeal.nD).tc : Thread Cert.ReferenceIdeal.nD Cert.ReferenceIdeal.τ).loc Cert.ReferenceIdeal.main_arg1) = fun j => word (roll n) (j 0) :=
    (hx 0).2.symm.trans (ht 0)
  refine ⟨result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run (defs (F := Ideal)) _ _).mono (fun r h c => ⟨?_, (h.1 c).1, (h.1 c).2.1⟩) (run_main (F := Ideal) m (roll n) g ht)
    exact (result_part n m _ (fun c => (hx c).1) c _ (h.1 c).2.2).trans (congrArg (fun t => held c (result _ t)) ht'.symm)
  · refine (θ_run (Cert.ReferenceIdeal.defs (F := Ideal)) _ _).mono (fun r h => ⟨(h 0).1.trans ?_, (h 0).2⟩) (Cert.ReferenceIdeal.Value.run (F := Ideal) m' g')
    rfl

/-- Where the table is that of rotation 3. -/
theorem algebraic1 : Cert.algebraic_KernelIdeal_ReferenceIdeal := fun m g m' g' hpre hx =>
  both 3 m g m' g' (fun c => pre_roll1 _ _ (hpre c)) hx

/-- Where the table is that of rotation 2. -/
theorem algebraic2 : Cert.algebraic_KernelIdeal_ReferenceIdeal_pre_roll2_Kernel := fun m g m' g' hpre hx =>
  both 2 m g m' g' (fun c => pre_roll2 _ _ (hpre c)) hx

/-- Where the table is that of rotation 1. -/
theorem algebraic3 : Cert.algebraic_KernelIdeal_ReferenceIdeal_pre_roll3_Kernel := fun m g m' g' hpre hx =>
  both 1 m g m' g' (fun c => pre_roll3 _ _ (hpre c)) hx

end Cert.Exchange

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim, at the facts the programs state and those the preconditions do. -/
theorem claim : Cert.Claim :=
  ⟨Cert.Kernel.Gen.facts, Cert.KernelIdeal.Gen.facts, Cert.ReferenceIdeal.Gen.facts,
    Cert.Exchange.pre1_facts, Cert.Exchange.pre2_facts, Cert.Exchange.pre3_facts,
    Cert.Exchange.pre1_facts', Cert.Exchange.pre2_facts', Cert.Exchange.pre3_facts',
    Cert.Exchange.frame_words1, Cert.Exchange.frame_words2, Cert.Exchange.frame_words3,
    Cert.Exchange.frame_exact1, Cert.Exchange.frame_exact2, Cert.Exchange.frame_exact3,
    Cert.Exchange.frame_ref, Cert.Exchange.frame_ref1, Cert.Exchange.frame_ref2, Cert.Exchange.frame_ref3,
    trivial, Cert.Exchange.algebraic1, Cert.Exchange.algebraic2, Cert.Exchange.algebraic3⟩

end Cert.Proof

end
